-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S256 : Shape := ⟨1, ![256]⟩
abbrev S256x3 : Shape := ⟨2, ![256, 3]⟩
abbrev S256x3x128x8x8 : Shape := ⟨5, ![256, 3, 128, 8, 8]⟩
abbrev S68x128x8x8 : Shape := ⟨4, ![68, 128, 8, 8]⟩
abbrev S128x128x3x3 : Shape := ⟨4, ![128, 128, 3, 3]⟩
abbrev S128 : Shape := ⟨1, ![128]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S256x3 : S_.BroadcastsInDim S256x3 (![] : Fin 0 → Fin S256x3.rank)
  reducesTo_S256x3_S_d0_1 : S256x3.ReducesTo [0, 1] S_

variable [Facts]

def fn {F : FTy → Type} [FloatOps F] (main_arg0 : IVec S256 32) (main_arg1 : IVec S256x3 32) (main_arg2 : FVec F S256x3x128x8x8 .f32) (main_arg3 : FVec F S68x128x8x8 .f32) (main_arg4 : FVec F S128x128x3x3 .f32) (main_arg5 : FVec F S128 .f32) (main_arg6 : FVec F S128x128x3x3 .f32) (main_arg7 : FVec F S128 .f32) (main_arg8 : FVec F S128x128x3x3 .f32) (main_arg9 : FVec F S128 .f32) : IVec S_ 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 64#32
  let main_v2 : IVec S256 32 := broadcastInDim S256 ![] bcast_S_S256 main_c_0
  let main_v3 : IVec S256 1 := cmpi .slt main_arg0 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  let main_c_2 : IVec S_ 32 := constantI S_ 32 0#32
  let main_v6 : IVec S256x3 32 := broadcastInDim S256x3 ![] bcast_S_S256x3 main_c_2
  let main_v7 : IVec S256x3 1 := cmpi .sge main_arg1 main_v6
  let main_c_3 : IVec S_ 32 := constantI S_ 32 19#32
  let main_v8 : IVec S256x3 32 := broadcastInDim S256x3 ![] bcast_S_S256x3 main_c_3
  let main_v9 : IVec S256x3 1 := cmpi .slt main_arg1 main_v8
  let main_v10 : IVec S256x3 1 := andi main_v7 main_v9
  let main_c_4 : IVec S_ 1 := constantI S_ 1 1#1
  let main_v11 : IVec S_ 1 := (fun x v => Host.reduce IntOp.andi x v reducesTo_S256x3_S_d0_1 h_S_) main_v10 main_c_4
  let main_v12 : IVec S_ 1 := andi main_v5 main_v11
  main_v12
-- ==== Kernel.lean ====
abbrev S256 : Shape := ⟨1, ![256]⟩
abbrev S256x3 : Shape := ⟨2, ![256, 3]⟩
abbrev S256x3x128x8x8 : Shape := ⟨5, ![256, 3, 128, 8, 8]⟩
abbrev S68x128x8x8 : Shape := ⟨4, ![68, 128, 8, 8]⟩
abbrev S128x128x3x3 : Shape := ⟨4, ![128, 128, 3, 3]⟩
abbrev S128 : Shape := ⟨1, ![128]⟩
abbrev S3 : Shape := ⟨1, ![3]⟩
abbrev S1x3 : Shape := ⟨2, ![1, 3]⟩
abbrev S768 : Shape := ⟨1, ![768]⟩
abbrev S256x1 : Shape := ⟨2, ![256, 1]⟩
abbrev S_ : Shape := ⟨0, ![]⟩
abbrev S768x128x64 : Shape := ⟨3, ![768, 128, 64]⟩
abbrev S768x64x128 : Shape := ⟨3, ![768, 64, 128]⟩
abbrev S768x8192 : Shape := ⟨2, ![768, 8192]⟩
abbrev S768x1 : Shape := ⟨2, ![768, 1]⟩
abbrev S768x128 : Shape := ⟨2, ![768, 128]⟩
abbrev S1x768 : Shape := ⟨2, ![1, 768]⟩
abbrev S8x768 : Shape := ⟨2, ![8, 768]⟩
abbrev S68x128x64 : Shape := ⟨3, ![68, 128, 64]⟩
abbrev S68x64x128 : Shape := ⟨3, ![68, 64, 128]⟩
abbrev S68x8192 : Shape := ⟨2, ![68, 8192]⟩
abbrev S72x8192 : Shape := ⟨2, ![72, 8192]⟩
abbrev S1 : Shape := ⟨1, ![1]⟩
abbrev S4608x128 : Shape := ⟨2, ![4608, 128]⟩
abbrev S3x3x128x128 : Shape := ⟨4, ![3, 3, 128, 128]⟩
abbrev S9x128x128 : Shape := ⟨3, ![9, 128, 128]⟩
abbrev S1x9x128x128 : Shape := ⟨4, ![1, 9, 128, 128]⟩
abbrev S3x9x128x128 : Shape := ⟨4, ![3, 9, 128, 128]⟩
abbrev S1x128 : Shape := ⟨2, ![1, 128]⟩
abbrev S8x128 : Shape := ⟨2, ![8, 128]⟩
abbrev S1x8x128 : Shape := ⟨3, ![1, 8, 128]⟩
abbrev S3x8x128 : Shape := ⟨3, ![3, 8, 128]⟩
abbrev S5200x1 : Shape := ⟨2, ![5200, 1]⟩
abbrev S72x8x128 : Shape := ⟨3, ![72, 8, 128]⟩
abbrev S72x64x128 : Shape := ⟨3, ![72, 64, 128]⟩
abbrev S72x72x128 : Shape := ⟨3, ![72, 72, 128]⟩
abbrev S5184x128 : Shape := ⟨2, ![5184, 128]⟩
abbrev S16x128 : Shape := ⟨2, ![16, 128]⟩
abbrev S5216x128 : Shape := ⟨2, ![5216, 128]⟩
abbrev S5200x128 : Shape := ⟨2, ![5200, 128]⟩
abbrev S1x1x128x128 : Shape := ⟨4, ![1, 1, 128, 128]⟩
abbrev S128x128 : Shape := ⟨2, ![128, 128]⟩
abbrev S1x1x128 : Shape := ⟨3, ![1, 1, 128]⟩
abbrev S768x1024 : Shape := ⟨2, ![768, 1024]⟩
abbrev S72x1024 : Shape := ⟨2, ![72, 1024]⟩
abbrev S768x768 : Shape := ⟨2, ![768, 768]⟩
abbrev S1x72 : Shape := ⟨2, ![1, 72]⟩
abbrev S768x72 : Shape := ⟨2, ![768, 72]⟩

abbrev nBuf : Space → Nat
  | .hbm => 68
  | .vmem => 13
  | .smem => 0
  | _ => 0

abbrev bufTy : (tb : Table) → Fin (tcTables nBuf tb) → BufTy
  | .hbm, ⟨0, _⟩ => ⟨S256, .i32⟩
  | .hbm, ⟨1, _⟩ => ⟨S256x3, .i32⟩
  | .hbm, ⟨2, _⟩ => ⟨S256x3x128x8x8, .f32⟩
  | .hbm, ⟨3, _⟩ => ⟨S68x128x8x8, .f32⟩
  | .hbm, ⟨4, _⟩ => ⟨S128x128x3x3, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128x128x3x3, .f32⟩
  | .hbm, ⟨9, _⟩ => ⟨S128, .f32⟩
  | .hbm, ⟨10, _⟩ => ⟨S3, .i32⟩
  | .hbm, ⟨11, _⟩ => ⟨S1x3, .i32⟩
  | .hbm, ⟨12, _⟩ => ⟨S256x3, .i32⟩
  | .hbm, ⟨13, _⟩ => ⟨S256x3, .i32⟩
  | .hbm, ⟨14, _⟩ => ⟨S768, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i32⟩
  | .hbm, ⟨19, _⟩ => ⟨S256x3, .i32⟩
  | .hbm, ⟨20, _⟩ => ⟨S256x3, .i32⟩
  | .hbm, ⟨21, _⟩ => ⟨S768, .i32⟩
  | .hbm, ⟨22, _⟩ => ⟨S768, .f32⟩
  | .hbm, ⟨23, _⟩ => ⟨S768, .f32⟩
  | .hbm, ⟨24, _⟩ => ⟨S768x128x64, .f32⟩
  | .hbm, ⟨25, _⟩ => ⟨S768x64x128, .f32⟩
  | .hbm, ⟨26, _⟩ => ⟨S768x8192, .f32⟩
  | .hbm, ⟨27, _⟩ => ⟨S768x1, .f32⟩
  | .hbm, ⟨28, _⟩ => ⟨S768x128, .f32⟩
  | .hbm, ⟨29, _⟩ => ⟨S1x768, .f32⟩
  | .hbm, ⟨30, _⟩ => ⟨S8x768, .f32⟩
  | .hbm, ⟨31, _⟩ => ⟨S768x1, .f32⟩
  | .hbm, ⟨32, _⟩ => ⟨S768x128, .f32⟩
  | .hbm, ⟨33, _⟩ => ⟨S68x128x64, .f32⟩
  | .hbm, ⟨34, _⟩ => ⟨S68x64x128, .f32⟩
  | .hbm, ⟨35, _⟩ => ⟨S68x8192, .f32⟩
  | .hbm, ⟨36, _⟩ => ⟨S_, .f32⟩
  | .hbm, ⟨37, _⟩ => ⟨S72x8192, .f32⟩
  | .hbm, ⟨38, _⟩ => ⟨S_, .i32⟩
  | .hbm, ⟨39, _⟩ => ⟨S1, .i32⟩
  | .hbm, ⟨40, _⟩ => ⟨S72x8192, .f32⟩
  | .hbm, ⟨41, _⟩ => ⟨S4608x128, .f32⟩
  | .hbm, ⟨42, _⟩ => ⟨S3x3x128x128, .f32⟩
  | .hbm, ⟨43, _⟩ => ⟨S9x128x128, .f32⟩
  | .hbm, ⟨44, _⟩ => ⟨S3x3x128x128, .f32⟩
  | .hbm, ⟨45, _⟩ => ⟨S9x128x128, .f32⟩
  | .hbm, ⟨46, _⟩ => ⟨S3x3x128x128, .f32⟩
  | .hbm, ⟨47, _⟩ => ⟨S9x128x128, .f32⟩
  | .hbm, ⟨48, _⟩ => ⟨S1x9x128x128, .f32⟩
  | .hbm, ⟨49, _⟩ => ⟨S1x9x128x128, .f32⟩
  | .hbm, ⟨50, _⟩ => ⟨S1x9x128x128, .f32⟩
  | .hbm, ⟨51, _⟩ => ⟨S3x9x128x128, .f32⟩
  | .hbm, ⟨52, _⟩ => ⟨S1x128, .f32⟩
  | .hbm, ⟨53, _⟩ => ⟨S8x128, .f32⟩
  | .hbm, ⟨54, _⟩ => ⟨S1x128, .f32⟩
  | .hbm, ⟨55, _⟩ => ⟨S8x128, .f32⟩
  | .hbm, ⟨56, _⟩ => ⟨S1x128, .f32⟩
  | .hbm, ⟨57, _⟩ => ⟨S8x128, .f32⟩
  | .hbm, ⟨58, _⟩ => ⟨S1x8x128, .f32⟩
  | .hbm, ⟨59, _⟩ => ⟨S1x8x128, .f32⟩
  | .hbm, ⟨60, _⟩ => ⟨S1x8x128, .f32⟩
  | .hbm, ⟨61, _⟩ => ⟨S3x8x128, .f32⟩
  | .hbm, ⟨62, _⟩ => ⟨S4608x128, .f32⟩
  | .hbm, ⟨63, _⟩ => ⟨S72x8192, .f32⟩
  | .hbm, ⟨64, _⟩ => ⟨S768x8192, .f32⟩
  | .hbm, ⟨65, _⟩ => ⟨S768x64x128, .f32⟩
  | .hbm, ⟨66, _⟩ => ⟨S768x128x64, .f32⟩
  | .hbm, ⟨67, _⟩ => ⟨S256x3x128x8x8, .f32⟩
  | .local _ .vmem, ⟨0, _⟩ => ⟨S4608x128, .f32⟩
  | .local _ .vmem, ⟨1, _⟩ => ⟨S3x9x128x128, .f32⟩
  | .local _ .vmem, ⟨2, _⟩ => ⟨S3x8x128, .f32⟩
  | .local _ .vmem, ⟨3, _⟩ => ⟨S4608x128, .f32⟩
  | .local _ .vmem, ⟨4, _⟩ => ⟨S768x1024, .f32⟩
  | .local _ .vmem, ⟨5, _⟩ => ⟨S768x1024, .f32⟩
  | .local _ .vmem, ⟨6, _⟩ => ⟨S8x768, .f32⟩
  | .local _ .vmem, ⟨7, _⟩ => ⟨S768x128, .f32⟩
  | .local _ .vmem, ⟨8, _⟩ => ⟨S768x128, .f32⟩
  | .local _ .vmem, ⟨9, _⟩ => ⟨S72x1024, .f32⟩
  | .local _ .vmem, ⟨10, _⟩ => ⟨S72x1024, .f32⟩
  | .local _ .vmem, ⟨11, _⟩ => ⟨S768x1024, .f32⟩
  | .local _ .vmem, ⟨12, _⟩ => ⟨S768x1024, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4608x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x9x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4608x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S768x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S768x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S72x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S768x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S256 : Shape := ⟨1, ![256]⟩
abbrev S256x3 : Shape := ⟨2, ![256, 3]⟩
abbrev S256x3x128x8x8 : Shape := ⟨5, ![256, 3, 128, 8, 8]⟩
abbrev S68x128x8x8 : Shape := ⟨4, ![68, 128, 8, 8]⟩
abbrev S128x128x3x3 : Shape := ⟨4, ![128, 128, 3, 3]⟩
abbrev S128 : Shape := ⟨1, ![128]⟩
abbrev S3 : Shape := ⟨1, ![3]⟩
abbrev S1x3 : Shape := ⟨2, ![1, 3]⟩
abbrev S768 : Shape := ⟨1, ![768]⟩
abbrev S256x1 : Shape := ⟨2, ![256, 1]⟩
abbrev S_ : Shape := ⟨0, ![]⟩
abbrev S768x8192 : Shape := ⟨2, ![768, 8192]⟩
abbrev S4352x8192 : Shape := ⟨2, ![4352, 8192]⟩
abbrev S768x1 : Shape := ⟨2, ![768, 1]⟩
abbrev S4352 : Shape := ⟨1, ![4352]⟩
abbrev S768x128x8x8 : Shape := ⟨4, ![768, 128, 8, 8]⟩
abbrev S768x128x10x10 : Shape := ⟨4, ![768, 128, 10, 10]⟩
abbrev S128x128x1x1 : Shape := ⟨4, ![128, 128, 1, 1]⟩
abbrev S128x128 : Shape := ⟨2, ![128, 128]⟩
abbrev S128x768x8x8 : Shape := ⟨4, ![128, 768, 8, 8]⟩
abbrev S1x128x1x1 : Shape := ⟨4, ![1, 128, 1, 1]⟩

abbrev nBuf : Space → Nat
  | .hbm => 275
  | .vmem => 0
  | .smem => 0
  | _ => 0

abbrev hbmTy0_0 (i : Nat) : BufTy := match i % 128 with
  | 0 => ⟨S256, .i32⟩
  | 1 => ⟨S256x3, .i32⟩
  | 2 => ⟨S256x3x128x8x8, .f32⟩
  | 3 => ⟨S68x128x8x8, .f32⟩
  | 4 => ⟨S128x128x3x3, .f32⟩
  | 5 => ⟨S128, .f32⟩
  | 6 => ⟨S128x128x3x3, .f32⟩
  | 7 => ⟨S128, .f32⟩
  | 8 => ⟨S128x128x3x3, .f32⟩
  | 9 => ⟨S128, .f32⟩
  | 10 => ⟨S3, .i32⟩
  | 11 => ⟨S1x3, .i32⟩
  | 12 => ⟨S256x3, .i32⟩
  | 13 => ⟨S256x3, .i32⟩
  | 14 => ⟨S768, .i32⟩
  | 15 => ⟨S256x1, .i32⟩
  | 16 => ⟨S_, .i32⟩
  | 17 => ⟨S256x1, .i32⟩
  | 18 => ⟨S256x1, .i32⟩
  | 19 => ⟨S256x3, .i32⟩
  | 20 => ⟨S256x3, .i32⟩
  | 21 => ⟨S768, .i32⟩
  | 22 => ⟨S768x8192, .f32⟩
  | 23 => ⟨S_, .f32⟩
  | 24 => ⟨S4352x8192, .f32⟩
  | 25 => ⟨S_, .i32⟩
  | 26 => ⟨S768, .i32⟩
  | 27 => ⟨S768, .i1⟩
  | 28 => ⟨S_, .i32⟩
  | 29 => ⟨S768, .i32⟩
  | 30 => ⟨S768, .i32⟩
  | 31 => ⟨S768, .i32⟩
  | 32 => ⟨S768x1, .i32⟩
  | 33 => ⟨S4352x8192, .f32⟩
  | 34 => ⟨S_, .f32⟩
  | 35 => ⟨S4352, .f32⟩
  | 36 => ⟨S_, .i32⟩
  | 37 => ⟨S768, .i32⟩
  | 38 => ⟨S768, .i1⟩
  | 39 => ⟨S_, .i32⟩
  | 40 => ⟨S768, .i32⟩
  | 41 => ⟨S768, .i32⟩
  | 42 => ⟨S768, .i32⟩
  | 43 => ⟨S768x1, .i32⟩
  | 44 => ⟨S_, .f32⟩
  | 45 => ⟨S768, .f32⟩
  | 46 => ⟨S4352, .f32⟩
  | 47 => ⟨S_, .i32⟩
  | 48 => ⟨S768, .i32⟩
  | 49 => ⟨S768, .i1⟩
  | 50 => ⟨S_, .i32⟩
  | 51 => ⟨S768, .i32⟩
  | 52 => ⟨S768, .i32⟩
  | 53 => ⟨S768, .i32⟩
  | 54 => ⟨S768x1, .i32⟩
  | 55 => ⟨S768x8192, .f32⟩
  | 56 => ⟨S_, .i32⟩
  | 57 => ⟨S768, .i32⟩
  | 58 => ⟨S768, .i1⟩
  | 59 => ⟨S_, .i32⟩
  | 60 => ⟨S768, .i32⟩
  | 61 => ⟨S768, .i32⟩
  | 62 => ⟨S768, .i32⟩
  | 63 => ⟨S768x1, .i32⟩
  | 64 => ⟨S768, .f32⟩
  | 65 => ⟨S768x1, .f32⟩
  | 66 => ⟨S768x8192, .f32⟩
  | 67 => ⟨S768x8192, .f32⟩
  | 68 => ⟨S256x3x128x8x8, .f32⟩
  | 69 => ⟨S_, .i32⟩
  | 70 => ⟨S768, .i32⟩
  | 71 => ⟨S768, .i1⟩
  | 72 => ⟨S_, .i32⟩
  | 73 => ⟨S768, .i32⟩
  | 74 => ⟨S768, .i32⟩
  | 75 => ⟨S768, .i32⟩
  | 76 => ⟨S768x1, .i32⟩
  | 77 => ⟨S768x128x8x8, .f32⟩
  | 78 => ⟨S_, .i32⟩
  | 79 => ⟨S_, .f32⟩
  | 80 => ⟨S768x128x10x10, .f32⟩
  | 81 => ⟨S_, .f32⟩
  | 82 => ⟨S768x128x8x8, .f32⟩
  | 83 => ⟨S768x128x8x8, .f32⟩
  | 84 => ⟨S128x128x1x1, .f32⟩
  | 85 => ⟨S128x128, .f32⟩
  | 86 => ⟨S128x768x8x8, .f32⟩
  | 87 => ⟨S768x128x8x8, .f32⟩
  | 88 => ⟨S768x128x8x8, .f32⟩
  | 89 => ⟨S768x128x8x8, .f32⟩
  | 90 => ⟨S128x128x1x1, .f32⟩
  | 91 => ⟨S128x128, .f32⟩
  | 92 => ⟨S128x768x8x8, .f32⟩
  | 93 => ⟨S768x128x8x8, .f32⟩
  | 94 => ⟨S768x128x8x8, .f32⟩
  | 95 => ⟨S768x128x8x8, .f32⟩
  | 96 => ⟨S128x128x1x1, .f32⟩
  | 97 => ⟨S128x128, .f32⟩
  | 98 => ⟨S128x768x8x8, .f32⟩
  | 99 => ⟨S768x128x8x8, .f32⟩
  | 100 => ⟨S768x128x8x8, .f32⟩
  | 101 => ⟨S768x128x8x8, .f32⟩
  | 102 => ⟨S128x128x1x1, .f32⟩
  | 103 => ⟨S128x128, .f32⟩
  | 104 => ⟨S128x768x8x8, .f32⟩
  | 105 => ⟨S768x128x8x8, .f32⟩
  | 106 => ⟨S768x128x8x8, .f32⟩
  | 107 => ⟨S768x128x8x8, .f32⟩
  | 108 => ⟨S128x128x1x1, .f32⟩
  | 109 => ⟨S128x128, .f32⟩
  | 110 => ⟨S128x768x8x8, .f32⟩
  | 111 => ⟨S768x128x8x8, .f32⟩
  | 112 => ⟨S768x128x8x8, .f32⟩
  | 113 => ⟨S768x128x8x8, .f32⟩
  | 114 => ⟨S128x128x1x1, .f32⟩
  | 115 => ⟨S128x128, .f32⟩
  | 116 => ⟨S128x768x8x8, .f32⟩
  | 117 => ⟨S768x128x8x8, .f32⟩
  | 118 => ⟨S768x128x8x8, .f32⟩
  | 119 => ⟨S768x128x8x8, .f32⟩
  | 120 => ⟨S128x128x1x1, .f32⟩
  | 121 => ⟨S128x128, .f32⟩
  | 122 => ⟨S128x768x8x8, .f32⟩
  | 123 => ⟨S768x128x8x8, .f32⟩
  | 124 => ⟨S768x128x8x8, .f32⟩
  | 125 => ⟨S768x128x8x8, .f32⟩
  | 126 => ⟨S128x128x1x1, .f32⟩
  | 127 => ⟨S128x128, .f32⟩
  | _ => ⟨S256, .i32⟩

abbrev hbmTy0_1 (i : Nat) : BufTy := match i % 128 with
  | 0 => ⟨S128x768x8x8, .f32⟩
  | 1 => ⟨S768x128x8x8, .f32⟩
  | 2 => ⟨S768x128x8x8, .f32⟩
  | 3 => ⟨S768x128x8x8, .f32⟩
  | 4 => ⟨S128x128x1x1, .f32⟩
  | 5 => ⟨S128x128, .f32⟩
  | 6 => ⟨S128x768x8x8, .f32⟩
  | 7 => ⟨S768x128x8x8, .f32⟩
  | 8 => ⟨S768x128x8x8, .f32⟩
  | 9 => ⟨S1x128x1x1, .f32⟩
  | 10 => ⟨S768x128x8x8, .f32⟩
  | 11 => ⟨S768x128x8x8, .f32⟩
  | 12 => ⟨S_, .f32⟩
  | 13 => ⟨S768x128x8x8, .f32⟩
  | 14 => ⟨S768x128x8x8, .f32⟩
  | 15 => ⟨S_, .i32⟩
  | 16 => ⟨S_, .f32⟩
  | 17 => ⟨S768x128x10x10, .f32⟩
  | 18 => ⟨S_, .f32⟩
  | 19 => ⟨S768x128x8x8, .f32⟩
  | 20 => ⟨S768x128x8x8, .f32⟩
  | 21 => ⟨S128x128x1x1, .f32⟩
  | 22 => ⟨S128x128, .f32⟩
  | 23 => ⟨S128x768x8x8, .f32⟩
  | 24 => ⟨S768x128x8x8, .f32⟩
  | 25 => ⟨S768x128x8x8, .f32⟩
  | 26 => ⟨S768x128x8x8, .f32⟩
  | 27 => ⟨S128x128x1x1, .f32⟩
  | 28 => ⟨S128x128, .f32⟩
  | 29 => ⟨S128x768x8x8, .f32⟩
  | 30 => ⟨S768x128x8x8, .f32⟩
  | 31 => ⟨S768x128x8x8, .f32⟩
  | 32 => ⟨S768x128x8x8, .f32⟩
  | 33 => ⟨S128x128x1x1, .f32⟩
  | 34 => ⟨S128x128, .f32⟩
  | 35 => ⟨S128x768x8x8, .f32⟩
  | 36 => ⟨S768x128x8x8, .f32⟩
  | 37 => ⟨S768x128x8x8, .f32⟩
  | 38 => ⟨S768x128x8x8, .f32⟩
  | 39 => ⟨S128x128x1x1, .f32⟩
  | 40 => ⟨S128x128, .f32⟩
  | 41 => ⟨S128x768x8x8, .f32⟩
  | 42 => ⟨S768x128x8x8, .f32⟩
  | 43 => ⟨S768x128x8x8, .f32⟩
  | 44 => ⟨S768x128x8x8, .f32⟩
  | 45 => ⟨S128x128x1x1, .f32⟩
  | 46 => ⟨S128x128, .f32⟩
  | 47 => ⟨S128x768x8x8, .f32⟩
  | 48 => ⟨S768x128x8x8, .f32⟩
  | 49 => ⟨S768x128x8x8, .f32⟩
  | 50 => ⟨S768x128x8x8, .f32⟩
  | 51 => ⟨S128x128x1x1, .f32⟩
  | 52 => ⟨S128x128, .f32⟩
  | 53 => ⟨S128x768x8x8, .f32⟩
  | 54 => ⟨S768x128x8x8, .f32⟩
  | 55 => ⟨S768x128x8x8, .f32⟩
  | 56 => ⟨S768x128x8x8, .f32⟩
  | 57 => ⟨S128x128x1x1, .f32⟩
  | 58 => ⟨S128x128, .f32⟩
  | 59 => ⟨S128x768x8x8, .f32⟩
  | 60 => ⟨S768x128x8x8, .f32⟩
  | 61 => ⟨S768x128x8x8, .f32⟩
  | 62 => ⟨S768x128x8x8, .f32⟩
  | 63 => ⟨S128x128x1x1, .f32⟩
  | 64 => ⟨S128x128, .f32⟩
  | 65 => ⟨S128x768x8x8, .f32⟩
  | 66 => ⟨S768x128x8x8, .f32⟩
  | 67 => ⟨S768x128x8x8, .f32⟩
  | 68 => ⟨S768x128x8x8, .f32⟩
  | 69 => ⟨S128x128x1x1, .f32⟩
  | 70 => ⟨S128x128, .f32⟩
  | 71 => ⟨S128x768x8x8, .f32⟩
  | 72 => ⟨S768x128x8x8, .f32⟩
  | 73 => ⟨S768x128x8x8, .f32⟩
  | 74 => ⟨S1x128x1x1, .f32⟩
  | 75 => ⟨S768x128x8x8, .f32⟩
  | 76 => ⟨S768x128x8x8, .f32⟩
  | 77 => ⟨S_, .f32⟩
  | 78 => ⟨S768x128x8x8, .f32⟩
  | 79 => ⟨S768x128x8x8, .f32⟩
  | 80 => ⟨S_, .i32⟩
  | 81 => ⟨S_, .f32⟩
  | 82 => ⟨S768x128x10x10, .f32⟩
  | 83 => ⟨S_, .f32⟩
  | 84 => ⟨S768x128x8x8, .f32⟩
  | 85 => ⟨S768x128x8x8, .f32⟩
  | 86 => ⟨S128x128x1x1, .f32⟩
  | 87 => ⟨S128x128, .f32⟩
  | 88 => ⟨S128x768x8x8, .f32⟩
  | 89 => ⟨S768x128x8x8, .f32⟩
  | 90 => ⟨S768x128x8x8, .f32⟩
  | 91 => ⟨S768x128x8x8, .f32⟩
  | 92 => ⟨S128x128x1x1, .f32⟩
  | 93 => ⟨S128x128, .f32⟩
  | 94 => ⟨S128x768x8x8, .f32⟩
  | 95 => ⟨S768x128x8x8, .f32⟩
  | 96 => ⟨S768x128x8x8, .f32⟩
  | 97 => ⟨S768x128x8x8, .f32⟩
  | 98 => ⟨S128x128x1x1, .f32⟩
  | 99 => ⟨S128x128, .f32⟩
  | 100 => ⟨S128x768x8x8, .f32⟩
  | 101 => ⟨S768x128x8x8, .f32⟩
  | 102 => ⟨S768x128x8x8, .f32⟩
  | 103 => ⟨S768x128x8x8, .f32⟩
  | 104 => ⟨S128x128x1x1, .f32⟩
  | 105 => ⟨S128x128, .f32⟩
  | 106 => ⟨S128x768x8x8, .f32⟩
  | 107 => ⟨S768x128x8x8, .f32⟩
  | 108 => ⟨S768x128x8x8, .f32⟩
  | 109 => ⟨S768x128x8x8, .f32⟩
  | 110 => ⟨S128x128x1x1, .f32⟩
  | 111 => ⟨S128x128, .f32⟩
  | 112 => ⟨S128x768x8x8, .f32⟩
  | 113 => ⟨S768x128x8x8, .f32⟩
  | 114 => ⟨S768x128x8x8, .f32⟩
  | 115 => ⟨S768x128x8x8, .f32⟩
  | 116 => ⟨S128x128x1x1, .f32⟩
  | 117 => ⟨S128x128, .f32⟩
  | 118 => ⟨S128x768x8x8, .f32⟩
  | 119 => ⟨S768x128x8x8, .f32⟩
  | 120 => ⟨S768x128x8x8, .f32⟩
  | 121 => ⟨S768x128x8x8, .f32⟩
  | 122 => ⟨S128x128x1x1, .f32⟩
  | 123 => ⟨S128x128, .f32⟩
  | 124 => ⟨S128x768x8x8, .f32⟩
  | 125 => ⟨S768x128x8x8, .f32⟩
  | 126 => ⟨S768x128x8x8, .f32⟩
  | 127 => ⟨S768x128x8x8, .f32⟩
  | _ => ⟨S256, .i32⟩

abbrev hbmTy0_2 (i : Nat) : BufTy := match i % 128 with
  | 0 => ⟨S128x128x1x1, .f32⟩
  | 1 => ⟨S128x128, .f32⟩
  | 2 => ⟨S128x768x8x8, .f32⟩
  | 3 => ⟨S768x128x8x8, .f32⟩
  | 4 => ⟨S768x128x8x8, .f32⟩
  | 5 => ⟨S768x128x8x8, .f32⟩
  | 6 => ⟨S128x128x1x1, .f32⟩
  | 7 => ⟨S128x128, .f32⟩
  | 8 => ⟨S128x768x8x8, .f32⟩
  | 9 => ⟨S768x128x8x8, .f32⟩
  | 10 => ⟨S768x128x8x8, .f32⟩
  | 11 => ⟨S1x128x1x1, .f32⟩
  | 12 => ⟨S768x128x8x8, .f32⟩
  | 13 => ⟨S768x128x8x8, .f32⟩
  | 14 => ⟨S_, .f32⟩
  | 15 => ⟨S768x128x8x8, .f32⟩
  | 16 => ⟨S768x128x8x8, .f32⟩
  | 17 => ⟨S256x3x128x8x8, .f32⟩
  | 18 => ⟨S256x3x128x8x8, .f32⟩
  | _ => ⟨S256, .i32⟩

abbrev hbmTy (i : Nat) : BufTy := match i / 128 with
  | 0 => hbmTy0_0 i
  | 1 => hbmTy0_1 i
  | 2 => hbmTy0_2 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_call0_v0 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_call1_cst : Ref sig .tc := ⟨.hbm, 140, rfl⟩
abbrev main_call1_v0 : Ref sig .tc := ⟨.hbm, 141, rfl⟩
abbrev main_v112 : Ref sig .tc := ⟨.hbm, 142, rfl⟩
abbrev main_c_15 : Ref sig .tc := ⟨.hbm, 143, rfl⟩
abbrev main_call2_v0 : Ref sig .tc := ⟨.hbm, 144, rfl⟩
abbrev main_v113 : Ref sig .tc := ⟨.hbm, 145, rfl⟩
abbrev main_cst_16 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_call3_cst : Ref sig .tc := ⟨.hbm, 205, rfl⟩
abbrev main_call3_v0 : Ref sig .tc := ⟨.hbm, 206, rfl⟩
abbrev main_v172 : Ref sig .tc := ⟨.hbm, 207, rfl⟩
abbrev main_c_17 : Ref sig .tc := ⟨.hbm, 208, rfl⟩
abbrev main_call4_v0 : Ref sig .tc := ⟨.hbm, 209, rfl⟩
abbrev main_v173 : Ref sig .tc := ⟨.hbm, 210, rfl⟩
abbrev main_cst_18 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_call5_cst : Ref sig .tc := ⟨.hbm, 270, rfl⟩
abbrev main_call5_v0 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩

abbrev nD : Nat := 1
abbrev τ : Topo := Topo.v7x

variable {F : FTy → Type} [FloatOps F]
-- ==== Proof.Pre.lean ====
/- The precondition read off its printed form: every style id is below 64 and every component id below 19. -/
module

public import proofs.«01_k».proof.Pre_ids_in_range
public import Idealize.ShloMosaic.Lib.Pointwise

@[expose] public section

noncomputable section

namespace Cert.Ids

open Idealize.ShloMosaic Cert.Pre_ids_in_range

/-- The precondition's side conditions. -/
theorem facts : Cert.Pre_ids_in_range.Facts where
  bcast_S_S256 := by decide
  reducesTo_S256_S_d0 := by decide
  h_S_ := by decide
  bcast_S_S256x3 := by decide
  reducesTo_S256x3_S_d0_1 := by decide

/-- Two bits whose conjunction is one are ones. -/
theorem both_one : ∀ p q : BitVec 1, IntOp.andi p q = 1#1 → p = 1#1 ∧ q = 1#1 := by decide

/-- A conjunction of bits that ends at one started at one, and met only ones. -/
theorem fold_one {α : Type} (x : α → BitVec 1) (l : List α) (r : BitVec 1)
    (h : l.foldl (fun r i => IntOp.andi r (x i)) r = 1#1) : r = 1#1 ∧ ∀ i ∈ l, x i = 1#1 := by
  induction l generalizing r with
  | nil => exact ⟨h, fun i hi => absurd hi List.not_mem_nil⟩
  | cons a l ih =>
    obtain ⟨h1, h2⟩ := ih _ h
    have h3 : r = 1#1 ∧ x a = 1#1 := both_one _ _ h1
    exact ⟨h3.1, fun i hi => (List.mem_cons.1 hi).elim (fun e => e ▸ h3.2) (h2 i)⟩

/-- All of an array's bits are one when their conjunction is. -/
theorem all_one {s t : Shape} {axes : List (Fin s.rank)} (x : IVec s 1) (init : IVec S_ 1) (h : s.ReducesTo axes t) (hu : 0 < S_.numel)
    (ht : ∀ b, t.size b = 1) (j : t.Idx) (e : Host.reduce IntOp.andi x init h hu j = 1#1) (i : s.Idx) : x i = 1#1 := by
  rw [Host.reduce_eq_foldl] at e
  refine (fold_one x _ _ e).2 i (List.mem_filter.2 ⟨?_, decide_eq_true (funext fun b => Fin.ext ?_)⟩)
  · exact List.mem_map.2 ⟨s.rowMajor i, List.mem_finRange _, s.rowMajor.symm_apply_apply i⟩
  · have := (h.drop i b).isLt
    have := (j b).isLt
    have := ht b
    omega

/-- A word found at least zero and below `n` as a signed number is below `n`. -/
theorem word_lt (v : BitVec 32) (n : ℕ) (hn : n < 2 ^ 31)
    (e : IntOp.andi (IntOp.cmpi .sge v 0#32) (IntOp.cmpi .slt v (BitVec.ofNat 32 n)) = 1#1) : v.toNat < n := by
  have bit : ∀ b : Bool, BitVec.ofBool b = 1#1 → b = true := by decide
  obtain ⟨e0, e1⟩ := both_one _ _ e
  have s0 : (0#32 : BitVec 32).toInt ≤ v.toInt := BitVec.sle_iff_toInt_le.1 (bit _ e0)
  have s1 : v.toInt < (BitVec.ofNat 32 n).toInt := BitVec.slt_iff_toInt_lt.1 (bit _ e1)
  have hn' : (BitVec.ofNat 32 n).toNat = n := Nat.mod_eq_of_lt (by omega)
  have hv := v.isLt
  rw [BitVec.toInt_eq_toNat_cond, BitVec.toInt_eq_toNat_cond, hn', if_pos (by omega : 2 * n < 2 ^ 32)] at s1
  rw [BitVec.toInt_zero, BitVec.toInt_eq_toNat_cond] at s0
  split at s1 <;> split at s0 <;> omega

/-- What the precondition says. -/
theorem ranges [Cert.Pre_ids_in_range.Facts] (a0 : IVec S256 32) (a1 : IVec S256x3 32) (a2 : FVec Ideal S256x3x128x8x8 .f32)
    (a3 : FVec Ideal S68x128x8x8 .f32) (a4 : FVec Ideal S128x128x3x3 .f32) (a5 : FVec Ideal S128 .f32)
    (a6 : FVec Ideal S128x128x3x3 .f32) (a7 : FVec Ideal S128 .f32) (a8 : FVec Ideal S128x128x3x3 .f32) (a9 : FVec Ideal S128 .f32)
    (h : Cert.Pre_ids_in_range.fn (F := Ideal) a0 a1 a2 a3 a4 a5 a6 a7 a8 a9 = fun _ => 1#1) :
    (∀ j, (a0 j).toNat < 64) ∧ (∀ j, (a1 j).toNat < 19) := by
  obtain ⟨e0, e1⟩ := both_one _ _ (congrFun h fun a => a.elim0)
  exact ⟨fun j => word_lt _ 64 (by decide) (all_one _ _ _ _ (fun a => a.elim0) _ e0 j),
    fun j => word_lt _ 19 (by decide) (all_one _ _ _ _ (fun a => a.elim0) _ e1 j)⟩

end Cert.Ids

end
-- ==== Proof.Spec.lean ====
/- The network in plain mathematics: three 3x3 convolutions over an 8x8 image of 128 channels, each with
   a bias and a ReLU. An image is a function of the position `8*row + column` (a natural number below 64)
   and the channel. No program is named here; the kernel and the reference are both read as these terms. -/
module

public import Idealize.ShloMosaic.Lib.Pointwise

@[expose] public section

noncomputable section

namespace Cert.Conv

/-- One tap of the stencil: the pixel at offset `(dy-1, dx-1)` of position `p`, zero outside the 8x8 image. -/
def tapv (X : ℕ → Fin 128 → EReal) (dy dx p : ℕ) (c : Fin 128) : EReal :=
  if 1 ≤ p / 8 + dy ∧ p / 8 + dy ≤ 8 ∧ 1 ≤ p % 8 + dx ∧ p % 8 + dx ≤ 8 then
    X (8 * (p / 8 + dy - 1) + (p % 8 + dx - 1)) c else 0

/-- What tap `k` (three a row) adds to output channel `o` at position `p`. -/
def term (X : ℕ → Fin 128 → EReal) (w : ℕ → Fin 128 → Fin 128 → EReal) (k p : ℕ) (o : Fin 128) : EReal :=
  ∑ c : Fin 128, tapv X (k / 3) (k % 3) p c * w k c o

/-- One layer: the nine taps added in order onto zero, the bias, the ReLU. -/
def layerv (X : ℕ → Fin 128 → EReal) (w : ℕ → Fin 128 → Fin 128 → EReal) (b : Fin 128 → EReal)
    (p : ℕ) (o : Fin 128) : EReal :=
  max (0 + term X w 0 p o + term X w 1 p o + term X w 2 p o + term X w 3 p o + term X w 4 p o + term X w 5 p o
    + term X w 6 p o + term X w 7 p o + term X w 8 p o + b o) 0

/-- A tap at a position of the image reads only positions of the image. -/
theorem tapv_congr {X Y : ℕ → Fin 128 → EReal} (h : ∀ q < 64, ∀ c, X q c = Y q c) (dy dx p : ℕ) (c : Fin 128) :
    tapv X dy dx p c = tapv Y dy dx p c := by
  unfold tapv
  split_ifs with hc
  · exact h _ (by omega) _
  · rfl

/-- A layer depends on its image, weights and bias only where it reads them. -/
theorem layerv_congr {X Y : ℕ → Fin 128 → EReal} {w w' : ℕ → Fin 128 → Fin 128 → EReal} {b b' : Fin 128 → EReal}
    (h : ∀ q < 64, ∀ c, X q c = Y q c) (hw : ∀ k < 9, ∀ c o, w k c o = w' k c o) (hb : ∀ o, b o = b' o)
    (p : ℕ) (o : Fin 128) : layerv X w b p o = layerv Y w' b' p o := by
  have ht : ∀ k < 9, term X w k p o = term Y w' k p o := fun k hk =>
    Finset.sum_congr rfl fun c _ => by rw [tapv_congr h, hw k hk]
  unfold layerv
  rw [ht 0 (by omega), ht 1 (by omega), ht 2 (by omega), ht 3 (by omega), ht 4 (by omega), ht 5 (by omega),
    ht 6 (by omega), ht 7 (by omega), ht 8 (by omega), hb]

open Idealize.ShloMosaic

/-! ## The operands as the network reads them -/

/-- Image `b` of the hypernet's input. -/
def imgv (a : (⟨4, ![68, 128, 8, 8]⟩ : Shape).Idx → EReal) (b q : ℕ) (c : Fin 128) : EReal :=
  if h : b < 68 ∧ q < 64 then a (ix4 ⟨b, h.1⟩ c ⟨q / 8, by omega⟩ ⟨q % 8, by omega⟩) else 0

/-- A layer's weights by tap, input channel and output channel. -/
def wv (w : (⟨4, ![128, 128, 3, 3]⟩ : Shape).Idx → EReal) (k : ℕ) (c o : Fin 128) : EReal :=
  if h : k < 9 then w (ix4 o c ⟨k / 3, by omega⟩ ⟨k % 3, by omega⟩) else 0

/-- A layer's bias by channel. -/
def bv (b : (⟨1, ![128]⟩ : Shape).Idx → EReal) (o : Fin 128) : EReal := b (ix1 o)

/-- Component `i`'s features by position and channel. -/
def featv (a : (⟨5, ![256, 3, 128, 8, 8]⟩ : Shape).Idx → EReal) (p : ℕ) (o : Fin 128) (i : Fin 768) : EReal :=
  if h : p < 64 then a (ix5 ⟨i.val / 3, by omega⟩ ⟨i.val % 3, by omega⟩ o ⟨p / 8, by omega⟩ ⟨p % 8, by omega⟩) else 0

/-- The first table row of each of the three components. -/
def offw (r : ℕ) : BitVec 32 := if r = 0 then 0#32 else if r = 1 then 19#32 else 40#32

/-- Component `i`'s table row. -/
def addrw (a1 : (⟨2, ![256, 3]⟩ : Shape).Idx → BitVec 32) (i : Fin 768) : BitVec 32 :=
  a1 (ix2 ⟨i.val / 3, by omega⟩ ⟨i.val % 3, by omega⟩) + offw (i.val % 3)

/-- Component `i`'s memory row: 68 rows a style. -/
def keyw (a0 : (⟨1, ![256]⟩ : Shape).Idx → BitVec 32) (a1 : (⟨2, ![256, 3]⟩ : Shape).Idx → BitVec 32) (i : Fin 768) : BitVec 32 :=
  a0 (ix1 ⟨i.val / 3, by omega⟩) * 68#32 + addrw a1 i

/-- The mean of the features of the components with `i`'s memory row. -/
def meanv (key : Fin 768 → BitVec 32) (x : Fin 768 → EReal) (i : Fin 768) : EReal :=
  Ideal.div (∑ k : Fin 768, if key k = key i then x k else 0) (∑ k : Fin 768, if key k = key i then 1 else 0)

/-- The result at component `i`, position `p`, channel `o`. -/
def resultv (a0 : (⟨1, ![256]⟩ : Shape).Idx → BitVec 32) (a1 : (⟨2, ![256, 3]⟩ : Shape).Idx → BitVec 32)
    (a2 : (⟨5, ![256, 3, 128, 8, 8]⟩ : Shape).Idx → EReal) (a3 : (⟨4, ![68, 128, 8, 8]⟩ : Shape).Idx → EReal)
    (w1 : (⟨4, ![128, 128, 3, 3]⟩ : Shape).Idx → EReal) (b1 : (⟨1, ![128]⟩ : Shape).Idx → EReal)
    (w2 : (⟨4, ![128, 128, 3, 3]⟩ : Shape).Idx → EReal) (b2 : (⟨1, ![128]⟩ : Shape).Idx → EReal)
    (w3 : (⟨4, ![128, 128, 3, 3]⟩ : Shape).Idx → EReal) (b3 : (⟨1, ![128]⟩ : Shape).Idx → EReal)
    (i : Fin 768) (p : ℕ) (o : Fin 128) : EReal :=
  meanv (keyw a0 a1) (featv a2 p o) i +
    layerv (layerv (layerv (imgv a3 (addrw a1 i).toNat) (wv w1) (bv b1)) (wv w2) (bv b2)) (wv w3) (bv b3) p o

/-- Components within their ranges address a row of the table. -/
theorem addrw_lt (a1 : (⟨2, ![256, 3]⟩ : Shape).Idx → BitVec 32) (h1 : ∀ j, (a1 j).toNat < 19) (i : Fin 768) :
    (addrw a1 i).toNat < 59 ∧ (addrw a1 i).toNat = (a1 (ix2 ⟨i.val / 3, by omega⟩ ⟨i.val % 3, by omega⟩)).toNat + (offw (i.val % 3)).toNat := by
  have h := h1 (ix2 ⟨i.val / 3, by omega⟩ ⟨i.val % 3, by omega⟩)
  have ho : (offw (i.val % 3)).toNat ≤ 40 := by
    unfold offw
    split_ifs <;> decide
  unfold addrw
  rw [BitVec.toNat_add]
  omega

/-- Styles and components within their ranges address a row of the memory. -/
theorem keyw_lt (a0 : (⟨1, ![256]⟩ : Shape).Idx → BitVec 32) (a1 : (⟨2, ![256, 3]⟩ : Shape).Idx → BitVec 32)
    (h0 : ∀ j, (a0 j).toNat < 64) (h1 : ∀ j, (a1 j).toNat < 19) (i : Fin 768) : (keyw a0 a1 i).toNat < 4352 := by
  have ha := (addrw_lt a1 h1 i).1
  have h := h0 (ix1 ⟨i.val / 3, by omega⟩)
  unfold keyw
  rw [BitVec.toNat_add, BitVec.toNat_mul, show (68#32).toNat = 68 from rfl,
    Nat.mod_eq_of_lt (a := _ * 68) (by omega), Nat.mod_eq_of_lt (by omega)]
  omega

end Cert.Conv

end
-- ==== Proof.Layer.lean ====
/- The network kernel's block: its masks, its taps and its layers over the padded rows, each at a row and a channel. -/
module

public import proofs.«01_k».proof.Proof.Spec
public import proofs.«01_k».proof.Proof.Gen.KernelIdeal.Frame
public import Idealize.ShloMosaic.Lib.Pointwise

@[expose] public section

set_option maxRecDepth 16384

noncomputable section

namespace Cert.KernelIdeal.Conv

open Idealize.ShloMosaic Idealize.SL.Sem Cert.KernelIdeal Cert.KernelIdeal.Gen Cert.Conv

/-! ## One layer as a term -/

/-- The images with 16 zero rows before and after. -/
def guarded (xg : FVec Ideal S5184x128 .f32) : FVec Ideal S5216x128 .f32 :=
  concatenate S5216x128 0 [⟨S16x128, broadcast S16x128 (Scalar.ofBits .f32 0x00000000#32)⟩, ⟨S5184x128, xg⟩,
    ⟨S16x128, broadcast S16x128 (Scalar.ofBits .f32 0x00000000#32)⟩] concatenates_S16x128_S5184x128_S16x128_S5216x128_d0

/-- The left neighbours, masked. -/
def baseL (m : FVec Ideal S5200x1 .f32) (xg : FVec Ideal S5184x128 .f32) : FVec Ideal S5200x128 .f32 :=
  mulf (extractStridedSlice S5200x128 ![7, 0] (guarded xg) slices_S5216x128_o7_0_S5200x128)
    (broadcastTo S5200x128 m broadcasts_S5200x1_S5200x128)

/-- The pixels themselves, masked. -/
def baseM (m : FVec Ideal S5200x1 .f32) (xg : FVec Ideal S5184x128 .f32) : FVec Ideal S5200x128 .f32 :=
  mulf (extractStridedSlice S5200x128 ![8, 0] (guarded xg) slices_S5216x128_o8_0_S5200x128)
    (broadcastTo S5200x128 m broadcasts_S5200x1_S5200x128)

/-- The right neighbours, masked. -/
def baseR (m : FVec Ideal S5200x1 .f32) (xg : FVec Ideal S5184x128 .f32) : FVec Ideal S5200x128 .f32 :=
  mulf (extractStridedSlice S5200x128 ![9, 0] (guarded xg) slices_S5216x128_o9_0_S5200x128)
    (broadcastTo S5200x128 m broadcasts_S5200x1_S5200x128)

/-- The image row above. -/
def up (v : FVec Ideal S5200x128 .f32) : FVec Ideal S5184x128 .f32 :=
  extractStridedSlice S5184x128 ![0, 0] v slices_S5200x128_o0_0_S5184x128

/-- The image row itself. -/
def mid (v : FVec Ideal S5200x128 .f32) : FVec Ideal S5184x128 .f32 :=
  extractStridedSlice S5184x128 ![8, 0] v slices_S5200x128_o8_0_S5184x128

/-- The image row below. -/
def down (v : FVec Ideal S5200x128 .f32) : FVec Ideal S5184x128 .f32 :=
  extractStridedSlice S5184x128 ![16, 0] v slices_S5200x128_o16_0_S5184x128

/-- A tap times its weight matrix. -/
def dotw (a : FVec Ideal S5184x128 .f32) (w : Vec Ideal S1x1x128x128 .f32) : FVec Ideal S5184x128 .f32 :=
  matmul (φ₂ := .f32) dot_S5184x128_S128x128_S5184x128_1_0_0_1_n_n none a (shapeCast S128x128 w shapeCasts_S1x1x128x128_S128x128)
    (constant S5184x128 .f32 0x00000000#32)

/-- One layer over the stacked images. -/
def layer (mL mM mR : FVec Ideal S5200x1 .f32) (xg : FVec Ideal S5184x128 .f32)
    (w0 w1 w2 w3 w4 w5 w6 w7 w8 : Vec Ideal S1x1x128x128 .f32) (b : Vec Ideal S1x1x128 .f32) : FVec Ideal S5184x128 .f32 :=
  maximumf (addf (addf (addf (addf (addf (addf (addf (addf (addf (addf
    (broadcast S5184x128 (Scalar.ofBits .f32 0x00000000#32))
    (dotw (up (baseL mL xg)) w0)) (dotw (up (baseM mM xg)) w1)) (dotw (up (baseR mR xg)) w2))
    (dotw (mid (baseL mL xg)) w3)) (dotw (mid (baseM mM xg)) w4)) (dotw (mid (baseR mR xg)) w5))
    (dotw (down (baseL mL xg)) w6)) (dotw (down (baseM mM xg)) w7)) (dotw (down (baseR mR xg)) w8))
    (broadcastTo S5184x128 (shapeCast S1x128 b shapeCasts_S1x1x128_S1x128) broadcasts_S1x128_S5184x128))
    (broadcast S5184x128 (Scalar.ofBits .f32 0x00000000#32))

/-- The images stacked with eight zero rows after each. -/
def spread (x : FVec Ideal S4608x128 .f32) : FVec Ideal S5184x128 .f32 :=
  shapeCast S5184x128 (concatenate S72x72x128 1 [⟨S72x64x128, shapeCast S72x64x128
      (shapeCast S4608x128 x shapeCasts_S4608x128_S4608x128) shapeCasts_S4608x128_S72x64x128⟩,
    ⟨S72x8x128, broadcast S72x8x128 (Scalar.ofBits .f32 0x00000000#32)⟩] concatenates_S72x64x128_S72x8x128_S72x72x128_d1)
    shapeCasts_S72x72x128_S5184x128

/-- The images taken out again. -/
def collect (y : FVec Ideal S5184x128 .f32) : FVec Ideal S4608x128 .f32 :=
  shapeCast S4608x128 (extractStridedSlice S72x64x128 ![0, 0, 0] (shapeCast S72x72x128 y shapeCasts_S5184x128_S72x72x128)
    slices_S72x72x128_o0_0_0_S72x64x128) shapeCasts_S72x64x128_S4608x128

/-- The mask of the left column: rows whose left neighbour is in the image. -/
def maskL : FVec Ideal S5200x1 .f32 := k0_pay9 (F := Ideal) k0_pay3 k0_pay5 k0_pay6 k0_pay7

/-- The mask of the centre column: every row that is not in a gap. -/
def maskM : FVec Ideal S5200x1 .f32 := k0_pay10 (F := Ideal) k0_pay3 k0_pay5 k0_pay6 k0_pay7

/-- The mask of the right column: rows whose right neighbour is in the image. -/
def maskR : FVec Ideal S5200x1 .f32 := k0_pay11 (F := Ideal) k0_pay3 (k0_pay8 k0_pay5 k0_pay6 k0_pay7) 1#32

/-- The first kernel's stored value is three layers of the spread images. -/
theorem out0_3_eq (x0 : Vec Ideal S4608x128 .f32) (x1 : Vec Ideal S3x9x128x128 .f32) (x2 : Vec Ideal S3x8x128 .f32) :
    out0_3 x0 x1 x2 = View.canon [⟨r0_0, collect
      (layer maskL maskM maskR (layer maskL maskM maskR (layer maskL maskM maskR (spread (View.ld x0 r0_0))
        (View.ld x1 r0_1) (View.ld x1 r0_2) (View.ld x1 r0_3) (View.ld x1 r0_4) (View.ld x1 r0_5) (View.ld x1 r0_6)
        (View.ld x1 r0_7) (View.ld x1 r0_8) (View.ld x1 r0_9) (View.ld x2 r0_10))
        (View.ld x1 r0_11) (View.ld x1 r0_12) (View.ld x1 r0_13) (View.ld x1 r0_14) (View.ld x1 r0_15) (View.ld x1 r0_16)
        (View.ld x1 r0_17) (View.ld x1 r0_18) (View.ld x1 r0_19) (View.ld x2 r0_20))
        (View.ld x1 r0_21) (View.ld x1 r0_22) (View.ld x1 r0_23) (View.ld x1 r0_24) (View.ld x1 r0_25) (View.ld x1 r0_26)
        (View.ld x1 r0_27) (View.ld x1 r0_28) (View.ld x1 r0_29) (View.ld x2 r0_30))⟩] := by
  rfl

/-! ## The layer at a row -/

/-- A row of a stack of rows, zero past its end. -/
def rowv {R : ℕ} (v : (⟨2, ![R, 128]⟩ : Shape).Idx → EReal) (r : ℕ) (c : Fin 128) : EReal :=
  if h : r < R then v (ix2 ⟨r, h⟩ c) else 0

/-- The guarded stack is the rows shifted down by sixteen, and zero outside them. -/
theorem guarded_at (xg : FVec Ideal S5184x128 .f32) (r : Fin 5216) (c : Fin 128) :
    guarded xg (ix2 r c) = if 16 ≤ r.val then rowv xg (r.val - 16) c else 0 := by
  unfold guarded rowv
  pointwise
  have := r.isLt
  by_cases h : r.val < 16
  · exact (dif_pos h).trans (if_neg (by omega)).symm
  · exact (dif_neg h).trans (if_pos (by omega)).symm

/-- The slice for the upper kernel row starts at row 0. -/
theorem up_at (v : FVec Ideal S5200x128 .f32) (r : Fin 5184) (c : Fin 128) :
    up v (ix2 r c) = v (ix2 ⟨r.val + 0, by omega⟩ c) := by
  unfold up
  pointwise
  try (congr 3 <;> omega)

/-- The slice for the middle kernel row starts at row 8. -/
theorem mid_at (v : FVec Ideal S5200x128 .f32) (r : Fin 5184) (c : Fin 128) :
    mid v (ix2 r c) = v (ix2 ⟨r.val + 8, by omega⟩ c) := by
  unfold mid
  pointwise
  try (congr 3 <;> omega)

/-- The slice for the lower kernel row starts at row 16. -/
theorem down_at (v : FVec Ideal S5200x128 .f32) (r : Fin 5184) (c : Fin 128) :
    down v (ix2 r c) = v (ix2 ⟨r.val + 16, by omega⟩ c) := by
  unfold down
  pointwise
  try (congr 3 <;> omega)

/-- The stack shifted for the left kernel column, times its mask. -/
theorem baseL_at (m : FVec Ideal S5200x1 .f32) (xg : FVec Ideal S5184x128 .f32) (r : Fin 5200) (c : Fin 128) :
    baseL m xg (ix2 r c) = guarded xg (ix2 ⟨r.val + 7, by omega⟩ c) * m (ix2 r 0) := by
  unfold baseL
  pointwise
  congr 4 <;> omega

/-- The stack shifted for the centre kernel column, times its mask. -/
theorem baseM_at (m : FVec Ideal S5200x1 .f32) (xg : FVec Ideal S5184x128 .f32) (r : Fin 5200) (c : Fin 128) :
    baseM m xg (ix2 r c) = guarded xg (ix2 ⟨r.val + 8, by omega⟩ c) * m (ix2 r 0) := by
  unfold baseM
  pointwise
  congr 4 <;> omega

/-- The stack shifted for the right kernel column, times its mask. -/
theorem baseR_at (m : FVec Ideal S5200x1 .f32) (xg : FVec Ideal S5184x128 .f32) (r : Fin 5200) (c : Fin 128) :
    baseR m xg (ix2 r c) = guarded xg (ix2 ⟨r.val + 9, by omega⟩ c) * m (ix2 r 0) := by
  unfold baseR
  pointwise
  congr 4 <;> omega

/-- A product with one tap's weights is a sum over the input channels. -/
theorem dotw_at (a : FVec Ideal S5184x128 .f32) (w : Vec Ideal S1x1x128x128 .f32) (r : Fin 5184) (o : Fin 128) :
    dotw a w (ix2 r o) = ∑ c : Fin 128, a (ix2 r c) * w (ix4 0 0 c o) := by
  unfold dotw
  pointwise

/-- A layer at an entry: its nine products added in order, the bias added, negatives cut to zero. -/
theorem layer_at (mL mM mR : FVec Ideal S5200x1 .f32) (xg : FVec Ideal S5184x128 .f32)
    (w0 w1 w2 w3 w4 w5 w6 w7 w8 : Vec Ideal S1x1x128x128 .f32) (b : Vec Ideal S1x1x128 .f32) (r : Fin 5184) (o : Fin 128) :
    layer mL mM mR xg w0 w1 w2 w3 w4 w5 w6 w7 w8 b (ix2 r o) =
      max (0 + dotw (up (baseL mL xg)) w0 (ix2 r o) + dotw (up (baseM mM xg)) w1 (ix2 r o)
        + dotw (up (baseR mR xg)) w2 (ix2 r o) + dotw (mid (baseL mL xg)) w3 (ix2 r o)
        + dotw (mid (baseM mM xg)) w4 (ix2 r o) + dotw (mid (baseR mR xg)) w5 (ix2 r o)
        + dotw (down (baseL mL xg)) w6 (ix2 r o) + dotw (down (baseM mM xg)) w7 (ix2 r o)
        + dotw (down (baseR mR xg)) w8 (ix2 r o) + b (ix3 0 0 o)) 0 := by
  unfold layer
  pointwise

/-- Spreading keeps 64 rows of every 72 and puts zero in the other eight. -/
theorem spread_at (x : FVec Ideal S4608x128 .f32) (r : Fin 5184) (c : Fin 128) :
    spread x (ix2 r c) = if r.val % 72 < 64 then rowv x (64 * (r.val / 72) + r.val % 72) c else 0 := by
  unfold spread rowv
  pointwise
  have := r.isLt
  by_cases h : r.val % 72 < 64
  · rw [dif_pos h, if_pos h, dif_pos (by omega)]
    congr 3
    omega
  · rw [dif_neg h, if_neg h]

/-- Collecting reads the first 64 rows of every 72. -/
theorem collect_at (y : FVec Ideal S5184x128 .f32) (r : Fin 4608) (c : Fin 128) :
    collect y (ix2 r c) = rowv y (72 * (r.val / 64) + r.val % 64) c := by
  unfold collect rowv
  pointwise
  have := r.isLt
  rw [dif_pos (by omega)]
  congr 3
  omega

/-- The rows that are not gaps: eight image rows of every nine. -/
theorem gap_word : ∀ s : Fin 5200, (k0_pay8 k0_pay5 k0_pay6 k0_pay7) (ix2 s 0) =
    if (s.val / 8 + 8) % 9 ≤ 7 then 1#1 else 0#1 := by
  decide +kernel

/-- The column of a row. -/
theorem col_word : ∀ s : Fin 5200, k0_pay3 (ix2 s 0) = BitVec.ofNat 32 (s.val % 8) := by
  decide +kernel

/-- Where a mask of horizontal offset `dx - 1` lets a row through. -/
def okay (dx s : ℕ) : Prop := 1 ≤ s % 8 + dx ∧ s % 8 + dx ≤ 8 ∧ (s / 8 + 8) % 9 ≤ 7

/-- Whether a tap's neighbour is in the image can be decided. -/
instance (dx s : ℕ) : Decidable (okay dx s) := by unfold okay; infer_instance

/-- A bit widened to a word and read as a number. -/
theorem sitofp_bit (P : Prop) [Decidable P] :
    (FloatOps.sitofp .f32 (BitVec.setWidth 32 (if P then 1#1 else 0#1)) : Ideal .f32) = if P then (1 : EReal) else 0 := by
  show (((BitVec.setWidth 32 (if P then 1#1 else 0#1)).toInt : ℝ) : EReal) = _
  by_cases h : P <;> simp [h]

/-- Two conditions' bits joined. -/
theorem andi_bit (P Q : Prop) [Decidable P] [Decidable Q] :
    IntOp.andi (if P then 1#1 else 0#1) (if Q then 1#1 else 0#1) = if P ∧ Q then 1#1 else 0#1 := by
  by_cases h : P <;> by_cases h' : Q <;> simp [h, h', IntOp.andi]

/-- The bounds test of horizontal offset `dx - 1`, for each of the eight places in a row. -/
theorem range_bit : ∀ (dx : Fin 3) (e : Fin 8),
    IntOp.andi (IntOp.cmpi CmpIPredicate.sge (IntOp.addi (BitVec.ofNat 32 e.val) (BitVec.ofNat 32 dx.val + 4294967295#32)) 0#32)
      (IntOp.cmpi CmpIPredicate.sle (IntOp.addi (BitVec.ofNat 32 e.val) (BitVec.ofNat 32 dx.val + 4294967295#32)) 7#32) =
      if 1 ≤ e.val + dx.val ∧ e.val + dx.val ≤ 8 then 1#1 else 0#1 := by
  decide

/-- The mask of horizontal offset `dx - 1` is one where the neighbour is in the image and zero elsewhere. -/
theorem mask_word (dx : Fin 3) (s : ℕ) :
    (FloatOps.sitofp .f32 (BitVec.setWidth 32 (IntOp.andi
      (IntOp.andi (IntOp.cmpi CmpIPredicate.sge (IntOp.addi (BitVec.ofNat 32 (s % 8)) (BitVec.ofNat 32 dx.val + 4294967295#32)) 0#32)
        (IntOp.cmpi CmpIPredicate.sle (IntOp.addi (BitVec.ofNat 32 (s % 8)) (BitVec.ofNat 32 dx.val + 4294967295#32)) 7#32))
      (if (s / 8 + 8) % 9 ≤ 7 then 1#1 else 0#1))) : Ideal .f32) = if okay dx.val s then (1 : EReal) else 0 := by
  refine (congrArg (fun x => FloatOps.sitofp .f32 (BitVec.setWidth 32 (IntOp.andi x _))) (range_bit dx ⟨s % 8, by omega⟩)).trans ?_
  rw [andi_bit, sitofp_bit]
  unfold okay
  simp only [and_assoc]

/-- The left mask is one where the neighbour is in the image and zero elsewhere. -/
theorem maskL_at (s : Fin 5200) : maskL (ix2 s 0) = if okay 0 s.val then (1 : EReal) else 0 := by
  unfold maskL k0_pay9
  pointwise
  rw [gap_word, col_word]
  exact mask_word 0 s.val

/-- The centre mask is one where the neighbour is in the image and zero elsewhere. -/
theorem maskM_at (s : Fin 5200) : maskM (ix2 s 0) = if okay 1 s.val then (1 : EReal) else 0 := by
  unfold maskM k0_pay10
  pointwise
  rw [gap_word, col_word]
  exact mask_word 1 s.val

/-- The right mask is one where the neighbour is in the image and zero elsewhere. -/
theorem maskR_at (s : Fin 5200) : maskR (ix2 s 0) = if okay 2 s.val then (1 : EReal) else 0 := by
  unfold maskR k0_pay11
  pointwise
  rw [gap_word, col_word]
  exact mask_word 2 s.val

end Cert.KernelIdeal.Conv

end
-- ==== Proof.Net.lean ====
/- The network kernel's three layers, at an image and a position, as the layers of plain mathematics. -/
module

public import proofs.«01_k».proof.Proof.Layer
public import Idealize.ShloMosaic.Lib.Pipeline.ValueKit

@[expose] public section

set_option maxRecDepth 16384

noncomputable section

namespace Cert.KernelIdeal.Conv

open Idealize.ShloMosaic Idealize.SL.Sem Cert.KernelIdeal Cert.KernelIdeal.Gen Cert.Conv

/-! ## A layer acts on each image by itself -/

/-- A masked, shifted row at a position of image `b` is that image's tap: the mask is zero exactly where the
    shift leaves the image. -/
theorem tap_row (xg : FVec Ideal S5184x128 .f32) (b : ℕ) (X : ℕ → Fin 128 → EReal)
    (hX : ∀ q < 64, ∀ c, rowv xg (72 * b + q) c = X q c) (dy dx p : ℕ) (hp : p < 64) (hy : dy ≤ 2) (hx : dx ≤ 2) (c : Fin 128)
    (s : ℕ) (hs : s = 72 * b + p + 8 * dy) (t : ℕ) (ht : t = s + 7 + dx) :
    (if 16 ≤ t then rowv xg (t - 16) c else 0) * (if okay dx s then (1 : EReal) else 0) = tapv X dy dx p c := by
  subst ht hs
  unfold tapv
  by_cases hc : 1 ≤ p / 8 + dy ∧ p / 8 + dy ≤ 8 ∧ 1 ≤ p % 8 + dx ∧ p % 8 + dx ≤ 8
  · have ho : okay dx (72 * b + p + 8 * dy) := by unfold okay; omega
    rw [if_pos hc, if_pos (by omega), if_pos ho, mul_one, ← hX _ (by omega)]
    congr 1
    omega
  · have ho : ¬ okay dx (72 * b + p + 8 * dy) := by unfold okay; omega
    rw [if_neg hc, if_neg ho, mul_zero]

/-- What tap `k` adds at a position of image `b`: a masked, shifted stack of rows times the tap's weights. -/
theorem tap_at (xg : FVec Ideal S5184x128 .f32) (b : ℕ) (X : ℕ → Fin 128 → EReal)
    (hX : ∀ q < 64, ∀ c, rowv xg (72 * b + q) c = X q c) (p : ℕ) (hp : p < 64) (h : 72 * b + p < 5184)
    (W : ℕ → Fin 128 → Fin 128 → EReal) (o : Fin 128) (k : ℕ) (hk : k < 9) (v : FVec Ideal S5184x128 .f32)
    (w : Vec Ideal S1x1x128x128 .f32) (hw : ∀ c o, w (ix4 0 0 c o) = W k c o)
    (hv : ∀ (r : Fin 5184) (c : Fin 128), v (ix2 r c) =
      (if 16 ≤ r.val + 8 * (k / 3) + 7 + k % 3 then rowv xg (r.val + 8 * (k / 3) + 7 + k % 3 - 16) c else 0)
        * (if okay (k % 3) (r.val + 8 * (k / 3)) then (1 : EReal) else 0)) :
    dotw v w (ix2 ⟨72 * b + p, h⟩ o) = term X W k p o := by
  rw [dotw_at]
  refine Finset.sum_congr rfl fun c _ => ?_
  rw [hv, hw]
  exact congrArg (· * _) (tap_row xg b X hX (k / 3) (k % 3) p hp (by omega) (by omega) c _ rfl _ rfl)

/-- A layer of the stacked images at a position of image `b` is the layer of that image alone. -/
theorem layer_row (xg : FVec Ideal S5184x128 .f32) (b : ℕ) (hb : b < 72) (X : ℕ → Fin 128 → EReal)
    (hX : ∀ q < 64, ∀ c, rowv xg (72 * b + q) c = X q c)
    (w0 w1 w2 w3 w4 w5 w6 w7 w8 : Vec Ideal S1x1x128x128 .f32) (bias : Vec Ideal S1x1x128 .f32)
    (W : ℕ → Fin 128 → Fin 128 → EReal) (B : Fin 128 → EReal)
    (h0 : ∀ c o, w0 (ix4 0 0 c o) = W 0 c o) (h1 : ∀ c o, w1 (ix4 0 0 c o) = W 1 c o)
    (h2 : ∀ c o, w2 (ix4 0 0 c o) = W 2 c o) (h3 : ∀ c o, w3 (ix4 0 0 c o) = W 3 c o)
    (h4 : ∀ c o, w4 (ix4 0 0 c o) = W 4 c o) (h5 : ∀ c o, w5 (ix4 0 0 c o) = W 5 c o)
    (h6 : ∀ c o, w6 (ix4 0 0 c o) = W 6 c o) (h7 : ∀ c o, w7 (ix4 0 0 c o) = W 7 c o)
    (h8 : ∀ c o, w8 (ix4 0 0 c o) = W 8 c o) (hB : ∀ o, bias (ix3 0 0 o) = B o) (p : ℕ) (hp : p < 64) (o : Fin 128) :
    rowv (layer maskL maskM maskR xg w0 w1 w2 w3 w4 w5 w6 w7 w8 bias) (72 * b + p) o = layerv X W B p o := by
  have h : 72 * b + p < 5184 := by omega
  have t := tap_at xg b X hX p hp h W o
  unfold rowv layerv
  rw [dif_pos h, layer_at, hB]
  rw [t 0 (by decide) _ w0 h0 (fun r c => by rw [up_at, baseL_at, guarded_at, maskL_at]; rfl)]
  rw [t 1 (by decide) _ w1 h1 (fun r c => by rw [up_at, baseM_at, guarded_at, maskM_at]; rfl)]
  rw [t 2 (by decide) _ w2 h2 (fun r c => by rw [up_at, baseR_at, guarded_at, maskR_at]; rfl)]
  rw [t 3 (by decide) _ w3 h3 (fun r c => by rw [mid_at, baseL_at, guarded_at, maskL_at])]
  rw [t 4 (by decide) _ w4 h4 (fun r c => by rw [mid_at, baseM_at, guarded_at, maskM_at])]
  rw [t 5 (by decide) _ w5 h5 (fun r c => by rw [mid_at, baseR_at, guarded_at, maskR_at])]
  rw [t 6 (by decide) _ w6 h6 (fun r c => by rw [down_at, baseL_at, guarded_at, maskL_at])]
  rw [t 7 (by decide) _ w7 h7 (fun r c => by rw [down_at, baseM_at, guarded_at, maskM_at])]
  rw [t 8 (by decide) _ w8 h8 (fun r c => by rw [down_at, baseR_at, guarded_at, maskR_at])]

/-- The weights of layer `l`, by tap. -/
def wOf (x1 : Vec Ideal S3x9x128x128 .f32) (l : Fin 3) (k : ℕ) (c o : Fin 128) : EReal :=
  if h : k < 9 then x1 (ix4 l ⟨k, h⟩ c o) else 0

/-- The bias of layer `l`. -/
def bOf (x2 : Vec Ideal S3x8x128 .f32) (l : Fin 3) (o : Fin 128) : EReal := x2 (ix3 l 0 o)

/-- Image `b` of the first kernel's input. -/
def imgOf (x0 : Vec Ideal S4608x128 .f32) (b q : ℕ) (c : Fin 128) : EReal := rowv x0 (64 * b + q) c

/-- The three layers of an image. -/
def net (x1 : Vec Ideal S3x9x128x128 .f32) (x2 : Vec Ideal S3x8x128 .f32) (X : ℕ → Fin 128 → EReal) : ℕ → Fin 128 → EReal :=
  layerv (layerv (layerv X (wOf x1 0) (bOf x2 0)) (wOf x1 1) (bOf x2 1)) (wOf x1 2) (bOf x2 2)

/-- The first kernel's result: at position `p` of image `b`, the three layers of that image. -/
theorem out0_3_at (x0 : Vec Ideal S4608x128 .f32) (x1 : Vec Ideal S3x9x128x128 .f32) (x2 : Vec Ideal S3x8x128 .f32)
    (b p : ℕ) (hb : b < 72) (hp : p < 64) (o : Fin 128) :
    rowv (out0_3 x0 x1 x2) (64 * b + p) o = net x1 x2 (imgOf x0 b) p o := by
  have hr : 64 * b + p < 4608 := by omega
  have hX : ∀ q < 64, ∀ c, rowv (spread (View.ld x0 r0_0)) (72 * b + q) c = imgOf x0 b q c := by
    intro q hq c
    have h2 : 72 * b + q < 5184 := by omega
    rw [rowv, dif_pos h2, spread_at, if_pos (by show (72 * b + q) % 72 < 64; omega)]
    have e : 64 * ((72 * b + q) / 72) + (72 * b + q) % 72 = 64 * b + q := by omega
    unfold imgOf
    show rowv _ (64 * ((72 * b + q) / 72) + (72 * b + q) % 72) c = _
    rw [e]
    unfold rowv
    split_ifs with h
    · pointwise
    · rfl
  have e : 72 * ((64 * b + p) / 64) + (64 * b + p) % 64 = 72 * b + p := by omega
  rw [out0_3_eq, rowv, dif_pos hr]
  refine (congrFun (View.canon_cons_unit_lit _ _ _ (by decide)) _).trans ?_
  rw [collect_at]
  show rowv _ (72 * ((64 * b + p) / 64) + (64 * b + p) % 64) o = _
  rw [e]
  refine layer_row _ b hb _ (fun q hq c => layer_row _ b hb _ (fun q hq c => layer_row _ b hb _ hX _ _ _ _ _ _ _ _ _ _
    (wOf x1 0) (bOf x2 0) ?_ ?_ ?_ ?_ ?_ ?_ ?_ ?_ ?_ ?_ q hq c) _ _ _ _ _ _ _ _ _ _ (wOf x1 1) (bOf x2 1)
    ?_ ?_ ?_ ?_ ?_ ?_ ?_ ?_ ?_ ?_ q hq c) _ _ _ _ _ _ _ _ _ _ (wOf x1 2) (bOf x2 2) ?_ ?_ ?_ ?_ ?_ ?_ ?_ ?_ ?_ ?_ p hp o
  all_goals (intros; first | (unfold wOf; pointwise; done) | (unfold bOf; pointwise; done))

end Cert.KernelIdeal.Conv

end
-- ==== Proof.Regions.lean ====
/- The arrays the two kernels leave, over the whole operand arrays each is handed. -/
module

public import proofs.«01_k».proof.Proof.Net

@[expose] public section

set_option maxRecDepth 16384

noncomputable section

namespace Cert.KernelIdeal.Conv

open Idealize.ShloMosaic Idealize.ShloMosaic.TcCoe Idealize.SL.Sem Cert.KernelIdeal Cert.KernelIdeal.Gen Cert.Conv
open Idealize.ShloMosaic.Pipeline (Dat)

variable (V : (c : Dev nD) → (b : Ref sig .tc) → Buf (Elt Ideal) ((c : Thread nD τ).loc b))

/-- The first kernel's only step reads and writes each array from its start. -/
theorem idx0 : ∀ t : Fin cfg0.N, win0_0.index t = ![0, 0] ∧ win0_1.index t = ![0, 0, 0, 0] ∧ win0_2.index t = ![0, 0, 0]
    ∧ win0_3.index t = ![0, 0] :=
  (by decide +kernel : ∀ t : Fin grid0.N, _)

/-- The first kernel's block of bias images is the whole array. -/
theorem blk0_0 (c : Dev nD) (t : Fin cfg0.N) : iblk0 V c 0 t = V c main_v27 := by
  blk_ext! [iblk0, idx0 t]

/-- The first kernel's block of weights is the whole array. -/
theorem blk0_1 (c : Dev nD) (t : Fin cfg0.N) : iblk0 V c 1 t = V c main_v37 := by
  blk_ext! [iblk0, idx0 t]

/-- The first kernel's block of biases is the whole array. -/
theorem blk0_2 (c : Dev nD) (t : Fin cfg0.N) : iblk0 V c 2 t = V c main_v47 := by
  blk_ext! [iblk0, idx0 t]

/-- The first kernel's result array. -/
theorem arr0 (c : Dev nD) : (dat0 V c).arrAt 3 cfg0.N = out0_3 (V c main_v27) (V c main_v37) (V c main_v47) := by
  have h : ∀ t, (dat0 V c).after 3 t = out0_3 (V c main_v27) (V c main_v37) (V c main_v47) := fun t => by
    rw [after0_3, blk0_0, blk0_1, blk0_2]
  refine (dat0 V c).arrAt_eq_of_after_last 3 ⟨0, by decide⟩ (by decide +kernel) _ fun j => ?_
  blk_simp
  exact congrFun (h _) _

/-- One where two numbers are equal, zero elsewhere. -/
def eqv (x y : EReal) : EReal := if x = y then 1 else 0

/-- A comparison's bit widened and read as a number. -/
theorem sitofp_eq (x y : EReal) :
    (FloatOps.sitofp .f32 (BitVec.setWidth 32 (BitVec.ofBool (decide (x = y)))) : Ideal .f32) = eqv x y := by
  have h : BitVec.ofBool (decide (x = y)) = if x = y then 1#1 else 0#1 := by
    by_cases h : x = y <;> simp [h]
  rw [h, sitofp_bit]
  rfl

/-- The second kernel at a row and a column: the mean of the rows with the same key, plus the table row the address picks. -/
def mixv (kc kr ac : Fin 768 → EReal) (x : Fin 768 → EReal) (tab : Fin 72 → EReal) (i : Fin 768) : EReal :=
  Ideal.div (∑ k : Fin 768, eqv (kc i) (kr k) * x k) (∑ k : Fin 768, eqv (kc i) (kr k))
    + ∑ k : Fin 72, eqv (ac i) (FloatOps.sitofp (F := Ideal) .f32 (BitVec.ofNat 32 k.val)) * tab k

/-- The second kernel's block: group mean plus the selected bias row. -/
theorem pay_at (v0 : Vec Ideal S768x1 .f32) (v2 : Vec Ideal S1x768 .f32) (v11 : Vec Ideal S768x1024 .f32)
    (v14 : Vec Ideal S768x1 .f32) (v23 : Vec Ideal S72x1024 .f32) (i : Fin 768) (j : Fin 1024) :
    k1_pay1 v0 v2 v11 v14 v23 (ix2 i j) =
      mixv (fun i => v0 (ix2 i 0)) (fun k => v2 (ix2 0 k)) (fun i => v14 (ix2 i 0)) (fun k => v11 (ix2 k j))
        (fun k => v23 (ix2 k j)) i := by
  unfold k1_pay1 mixv
  pointwise
  simp only [sitofp_eq]

/-- Step `t` of the second kernel takes column block `t` of features, table and result, and the other arrays whole. -/
theorem idx1 : ∀ t : Fin cfg1.N, win1_0.index t = ![0, t.val] ∧ win1_1.index t = ![0, 0] ∧ win1_2.index t = ![0, 0]
    ∧ win1_3.index t = ![0, 0] ∧ win1_4.index t = ![0, t.val] ∧ win1_5.index t = ![0, t.val] :=
  (by decide +kernel : ∀ t : Fin grid1.N, _)

/-- The whole result of the second kernel, over its whole operand arrays. -/
def mixed (x : Vec Ideal S768x8192 .f32) (kr : Vec Ideal S8x768 .f32) (kc ac : Vec Ideal S768x128 .f32)
    (tab : Vec Ideal S72x8192 .f32) : Vec Ideal S768x8192 .f32 := fun j =>
  mixv (fun i => kc (ix2 i 0)) (fun k => kr (ix2 0 k)) (fun i => ac (ix2 i 0)) (fun k => x (ix2 k (j 1)))
    (fun k => tab (ix2 k (j 1))) (j 0)

/-- The second kernel's block of keys along a row is the whole array. -/
theorem blk1_1 (c : Dev nD) (t : Fin cfg1.N) : iblk1 V c 1 t = V c main_v18 := by
  blk_ext! [iblk1, idx1 t]

/-- The second kernel's block of keys down a column is the whole array. -/
theorem blk1_2 (c : Dev nD) (t : Fin cfg1.N) : iblk1 V c 2 t = V c main_v16 := by
  blk_ext! [iblk1, idx1 t]

/-- The second kernel's block of addresses is the whole array. -/
theorem blk1_3 (c : Dev nD) (t : Fin cfg1.N) : iblk1 V c 3 t = V c main_v20 := by
  blk_ext! [iblk1, idx1 t]

/-- The second kernel's result array. -/
theorem arr1 (c : Dev nD) : (dat1 V c).arrAt 5 cfg1.N =
    mixed (V c main_v14) (V c main_v18) (V c main_v16) (V c main_v20) (V c main_v49) := by
  refine (dat1 V c).arrAt_eq_of_covers 5 _ (by decide +kernel) fun t hf y => ?_
  blk_simp [idx1 t]
  rw [after1_5, blk1_1, blk1_2, blk1_3]
  frame_out
  have ht : t.val < 8 := t.isLt
  obtain ⟨i, j, rfl⟩ : ∃ (i : Fin 768) (j : Fin 1024), y = ix2 i j := ⟨y 0, y 1, eq_ix2 y⟩
  have e : ((View.whole main_v50).slice (win1_5.rect t)).emb (ix2 i j) = (ix2 i ⟨1024 * t.val + j.val, by omega⟩ : S768x8192.Idx) := by
    blk_ext! [idx1 t]
  have e0 : ∀ k : Fin 768, iblk1 V c 0 t (ix2 k j) = V c main_v14 (ix2 k ⟨1024 * t.val + j.val, by omega⟩) := fun k => by
    blk_ext! [iblk1, idx1 t]
  have e4 : ∀ k : Fin 72, iblk1 V c 4 t (ix2 k j) = V c main_v49 (ix2 k ⟨1024 * t.val + j.val, by omega⟩) := fun k => by
    blk_ext! [iblk1, idx1 t]
  refine (pay_at _ _ _ _ _ i j).trans ?_
  refine Eq.trans ?_ (congrArg _ e.symm)
  unfold mixed
  simp only [e0, e4]
  congr 1 <;> (funext k; pointwise)

end Cert.KernelIdeal.Conv

end
-- ==== Proof.HostIn.lean ====
/- The host operations before and between the kernels: what the kernels are handed, as terms of the arguments and at an index. -/
module

public import proofs.«01_k».proof.Proof.Regions
public import Idealize.ShloMosaic.Lib.Routing.OpsSet

@[expose] public section

set_option maxRecDepth 16384

noncomputable section

namespace Cert.KernelIdeal.Conv

open Idealize.ShloMosaic Idealize.ShloMosaic.TcCoe Idealize.SL.Sem Cert.KernelIdeal Cert.KernelIdeal.Gen Cert.Conv

/-! ## The host's terms: what the two kernels are handed, over the arguments -/

/-- The flat component addresses. -/
def addrT (a1 : IVec S256x3 32) : IVec S768 32 :=
  shapeCast S768 (addi a1 (broadcastInDim S256x3 ![0, 1] bcast_S1x3_S256x3_0_1 (broadcastInDim S1x3 ![1] bcast_S3_S1x3_1
    (fun i => lit0 (S3.rowMajor i))))) shapeCasts_S256x3_S768

/-- The flat memory keys. -/
def keyT (a0 : IVec S256 32) (a1 : IVec S256x3 32) : IVec S768 32 :=
  shapeCast S768 (addi (broadcastInDim S256x3 ![0, 1] bcast_S256x1_S256x3_0_1 (muli (broadcastInDim S256x1 ![0] bcast_S256_S256x1_0 a0)
    (broadcastInDim S256x1 ![] bcast_S_S256x1 (constantI S_ 32 68#32)))) (addi a1 (broadcastInDim S256x3 ![0, 1] bcast_S1x3_S256x3_0_1
      (broadcastInDim S1x3 ![1] bcast_S3_S1x3_1 (fun i => lit0 (S3.rowMajor i)))))) shapeCasts_S256x3_S768

/-- The features, a row a component, columns by position then channel. -/
def featT (a2 : FVec Ideal S256x3x128x8x8 .f32) : FVec Ideal S768x8192 .f32 :=
  shapeCast S768x8192 (transpose S768x64x128 [0, 2, 1] (shapeCast S768x128x64 a2
      shapeCasts_S256x3x128x8x8_S768x128x64) transposes_S768x128x64_S768x64x128_0_2_1) shapeCasts_S768x64x128_S768x8192

/-- A vector down the rows of 128 columns. -/
def colT (v : FVec Ideal S768 .f32) : FVec Ideal S768x128 .f32 :=
  broadcastInDim S768x128 ![0, 1] bcast_S768x1_S768x128_0_1 (broadcastInDim S768x1 ![0] bcast_S768_S768x1_0 v)

/-- A vector along each of eight rows. -/
def rowT (v : FVec Ideal S768 .f32) : FVec Ideal S8x768 .f32 :=
  broadcastInDim S8x768 ![0, 1] bcast_S1x768_S8x768_0_1 (broadcastInDim S1x768 ![1] bcast_S768_S1x768_1 v)

/-- The bias images, a row an image, columns by position then channel. -/
def biasT (a3 : FVec Ideal S68x128x8x8 .f32) : FVec Ideal S68x8192 .f32 :=
  shapeCast S68x8192 (transpose S68x64x128 [0, 2, 1] (shapeCast S68x128x64 a3
      shapeCasts_S68x128x8x8_S68x128x64) transposes_S68x128x64_S68x64x128_0_2_1) shapeCasts_S68x64x128_S68x8192

/-- The 68 bias images written over 72 zero rows. -/
def padT (a3 : FVec Ideal S68x128x8x8 .f32) : FVec Ideal S72x8192 .f32 :=
  Host.scatter scatter_S72x8192_S1_S68x8192_01_n_0_0 (fun _ b => b)
    (broadcastInDim S72x8192 ![] bcast_S_S72x8192 (constant S_ .f32 0x00000000#32))
    (broadcastInDim S1 ![] bcast_S_S1 (constantI S_ 32 0#32)) (biasT a3)

/-- The same, a row a position. -/
def imgT (a3 : FVec Ideal S68x128x8x8 .f32) : FVec Ideal S4608x128 .f32 :=
  shapeCast S4608x128 (padT a3) shapeCasts_S72x8192_S4608x128

/-- One layer's weights, tap by tap, input channel by output channel. -/
def wtT (w : FVec Ideal S128x128x3x3 .f32) : FVec Ideal S1x9x128x128 .f32 :=
  broadcastInDim S1x9x128x128 ![1, 2, 3] bcast_S9x128x128_S1x9x128x128_1_2_3 (shapeCast S9x128x128
    (transpose S3x3x128x128 [2, 3, 1, 0] w transposes_S128x128x3x3_S3x3x128x128_2_3_1_0) shapeCasts_S3x3x128x128_S9x128x128)

/-- The three layers' weights stacked. -/
def wsT (w1 w2 w3 : FVec Ideal S128x128x3x3 .f32) : FVec Ideal S3x9x128x128 .f32 :=
  concatenate S3x9x128x128 0 [⟨S1x9x128x128, wtT w1⟩, ⟨S1x9x128x128, wtT w2⟩, ⟨S1x9x128x128, wtT w3⟩]
    concatenates_S1x9x128x128_S1x9x128x128_S1x9x128x128_S3x9x128x128_d0

/-- One layer's bias, over eight equal rows. -/
def btT (b : FVec Ideal S128 .f32) : FVec Ideal S1x8x128 .f32 :=
  broadcastInDim S1x8x128 ![1, 2] bcast_S8x128_S1x8x128_1_2 (broadcastInDim S8x128 ![0, 1] bcast_S1x128_S8x128_0_1
    (broadcastInDim S1x128 ![1] bcast_S128_S1x128_1 b))

/-- The three layers' biases stacked. -/
def bsT (b1 b2 b3 : FVec Ideal S128 .f32) : FVec Ideal S3x8x128 .f32 :=
  concatenate S3x8x128 0 [⟨S1x8x128, btT b1⟩, ⟨S1x8x128, btT b2⟩, ⟨S1x8x128, btT b3⟩]
    concatenates_S1x8x128_S1x8x128_S1x8x128_S3x8x128_d0

/-! ## The same terms at an index -/

/-- The three offsets in the kernel's table are those of plain mathematics. -/
theorem lit0_at : ∀ r : Fin 3, lit0 (S3.rowMajor (ix1 r)) = offw r.val := by decide

/-- Row `i`'s address is its component number plus the offset of its place among three. -/
theorem addrT_at (a1 : IVec S256x3 32) (i : Fin 768) :
    addrT a1 (ix1 i) = a1 (ix2 ⟨i.val / 3, by omega⟩ ⟨i.val % 3, by omega⟩) + offw (i.val % 3) := by
  unfold addrT
  pointwise
  rw [lit0_at]
  rfl

/-- Row `i`'s key is its style number times 68 plus its address. -/
theorem keyT_at (a0 : IVec S256 32) (a1 : IVec S256x3 32) (i : Fin 768) :
    keyT a0 a1 (ix1 i) = a0 (ix1 ⟨i.val / 3, by omega⟩) * 68#32
      + (a1 (ix2 ⟨i.val / 3, by omega⟩ ⟨i.val % 3, by omega⟩) + offw (i.val % 3)) := by
  unfold keyT
  pointwise
  rw [lit0_at]
  rfl

/-- The feature rows hold, at column `128 * p + c`, channel `c` of pixel `p`. -/
theorem featT_at (a2 : FVec Ideal S256x3x128x8x8 .f32) (i : Fin 768) (p : ℕ) (hp : p < 64) (c : Fin 128) :
    featT a2 (ix2 i ⟨128 * p + c.val, by omega⟩) =
      a2 (ix5 ⟨i.val / 3, by omega⟩ ⟨i.val % 3, by omega⟩ c ⟨p / 8, by omega⟩ ⟨p % 8, by omega⟩) := by
  unfold featT
  pointwise
  congr 3 <;> omega

/-- The bias rows hold, at column `128 * p + c`, channel `c` of pixel `p` of the image. -/
theorem biasT_at (a3 : FVec Ideal S68x128x8x8 .f32) (i : Fin 68) (p : ℕ) (hp : p < 64) (c : Fin 128) :
    biasT a3 (ix2 i ⟨128 * p + c.val, by omega⟩) =
      a3 (ix4 i c ⟨p / 8, by omega⟩ ⟨p % 8, by omega⟩) := by
  unfold biasT
  pointwise
  congr 3 <;> omega

/-- Each of the 68 bias rows sits unchanged in the table of 72 rows. -/
theorem padT_at (a3 : FVec Ideal S68x128x8x8 .f32) (i : Fin 68) (j : Fin 8192) :
    padT a3 (ix2 ⟨i.val, by omega⟩ j) = biasT a3 (ix2 i j) := by
  have key : ∀ k : S68x8192.Idx, scatter_S72x8192_S1_S68x8192_01_n_0_0.resultIdx? k
      (broadcastInDim S1 ![] bcast_S_S1 (constantI S_ 32 0#32)) = some (ix2 ⟨i.val, by omega⟩ j : S72x8192.Idx) ↔ k = ix2 i j := by
    intro k
    rw [Routing.resultIdx?_eq_some]
    have hs : ∀ a, scatter_S72x8192_S1_S68x8192_01_n_0_0.start k (broadcastInDim S1 ![] bcast_S_S1 (constantI S_ 32 0#32)) a = 0 := by
      intro a
      unfold ScatterDims.start
      split <;> rfl
    have h0 : scatter_S72x8192_S1_S68x8192_01_n_0_0.window k 0 = (k 0).val := rfl
    have h1 : scatter_S72x8192_S1_S68x8192_01_n_0_0.window k 1 = (k 1).val := rfl
    constructor
    · intro h
      have e0 := h 0
      have e1 := h 1
      rw [hs, h0] at e0
      rw [hs, h1] at e1
      rw [eq_ix2 k]
      congr 1
      · exact Fin.ext (by change (0 : ℤ) + ((k 0).val : ℤ) = (i.val : ℤ) at e0; omega)
      · exact Fin.ext (by change (0 : ℤ) + ((k 1).val : ℤ) = (j.val : ℤ) at e1; omega)
    · rintro rfl a
      rw [hs, zero_add]
      match a with
      | ⟨0, _⟩ => rfl
      | ⟨1, _⟩ => rfl
  unfold padT
  refine Routing.scatter_set_hit _ _ _ _ _ _ (fun k hk => ?_) (ix2 i j) ((key _).2 rfl)
  rw [(key k).1 hk]

/-- A vector spread over columns, read in the first column. -/
theorem colT_at (v : FVec Ideal S768 .f32) (i : Fin 768) : colT v (ix2 i 0) = v (ix1 i) := by
  unfold colT
  pointwise

/-- A vector spread over rows, read in the first row. -/
theorem rowT_at (v : FVec Ideal S768 .f32) (i : Fin 768) : rowT v (ix2 0 i) = v (ix1 i) := by
  unfold rowT
  pointwise

/-- Weights rearranged by tap: tap `k` is the kernel position `(k / 3, k % 3)`. -/
theorem wtT_at (w : FVec Ideal S128x128x3x3 .f32) (k : Fin 9) (c o : Fin 128) :
    wtT w (ix4 0 k c o) = w (ix4 o c ⟨k.val / 3, by omega⟩ ⟨k.val % 3, by omega⟩) := by
  unfold wtT
  pointwise

/-- A bias vector repeated over eight rows, read in the first one. -/
theorem btT_at (b : FVec Ideal S128 .f32) (o : Fin 128) : btT b (ix3 0 0 o) = b (ix1 o) := by
  unfold btT
  pointwise

/-- The first kernel's image `b` is bias image `b`. -/
theorem imgOf_imgT (a3 : FVec Ideal S68x128x8x8 .f32) (b : Fin 68) (q : ℕ) (hq : q < 64) (c : Fin 128) :
    imgOf (imgT a3) b.val q c = a3 (ix4 b c ⟨q / 8, by omega⟩ ⟨q % 8, by omega⟩) := by
  have h : 64 * b.val + q < 4608 := by omega
  unfold imgOf rowv imgT
  rw [dif_pos h]
  pointwise
  rw [← biasT_at a3 b q hq c, ← padT_at]
  congr 2 <;> apply Fin.ext <;> simp <;> omega

/-- Each layer of the stacked weights is that layer's own weights, by tap. -/
theorem wOf_wsT (w1 w2 w3 : FVec Ideal S128x128x3x3 .f32) (k : ℕ) (hk : k < 9) (c o : Fin 128) :
    wOf (wsT w1 w2 w3) 0 k c o = w1 (ix4 o c ⟨k / 3, by omega⟩ ⟨k % 3, by omega⟩)
    ∧ wOf (wsT w1 w2 w3) 1 k c o = w2 (ix4 o c ⟨k / 3, by omega⟩ ⟨k % 3, by omega⟩)
    ∧ wOf (wsT w1 w2 w3) 2 k c o = w3 (ix4 o c ⟨k / 3, by omega⟩ ⟨k % 3, by omega⟩) := by
  unfold wOf wsT
  refine ⟨?_, ?_, ?_⟩ <;> rw [dif_pos hk] <;> pointwise
  all_goals exact wtT_at _ ⟨k, hk⟩ c o

/-- Each layer of the stacked biases is that layer's own bias. -/
theorem bOf_bsT (b1 b2 b3 : FVec Ideal S128 .f32) (o : Fin 128) :
    bOf (bsT b1 b2 b3) 0 o = b1 (ix1 o) ∧ bOf (bsT b1 b2 b3) 1 o = b2 (ix1 o) ∧ bOf (bsT b1 b2 b3) 2 o = b3 (ix1 o) := by
  unfold bOf bsT
  refine ⟨?_, ?_, ?_⟩ <;> pointwise
  all_goals exact btT_at _ o

/-! ## The operand arrays hold these terms -/

variable (m : (ℓ : Loc nD τ sig) → Buf (Elt Ideal) ℓ) (ρ : Dev nD → PrngReg)

/-- Before the first kernel runs, `main_v14` holds the feature rows. -/
theorem W1_v14 (c : Dev nD) : W1 m ρ c (Proc.devRef .tc main_v14) = featT (m ((c : Thread nD τ).loc main_arg2)) := by
  after_results
  rfl

/-- Before the first kernel runs, `main_v16` holds the keys, as numbers, down a column. -/
theorem W1_v16 (c : Dev nD) : W1 m ρ c (Proc.devRef .tc main_v16) =
    colT (sitofp .f32 (keyT (m ((c : Thread nD τ).loc main_arg0)) (m ((c : Thread nD τ).loc main_arg1)))) := by
  after_results
  rfl

/-- Before the first kernel runs, `main_v18` holds the keys, as numbers, along a row. -/
theorem W1_v18 (c : Dev nD) : W1 m ρ c (Proc.devRef .tc main_v18) =
    rowT (sitofp .f32 (keyT (m ((c : Thread nD τ).loc main_arg0)) (m ((c : Thread nD τ).loc main_arg1)))) := by
  after_results
  rfl

/-- Before the first kernel runs, `main_v20` holds the addresses, as numbers, down a column. -/
theorem W1_v20 (c : Dev nD) : W1 m ρ c (Proc.devRef .tc main_v20) =
    colT (sitofp .f32 (addrT (m ((c : Thread nD τ).loc main_arg1)))) := by
  after_results
  rfl

/-- Before the first kernel runs, `main_v27` holds the bias images, a row for each pixel. -/
theorem W1_v27 (c : Dev nD) : W1 m ρ c (Proc.devRef .tc main_v27) = imgT (m ((c : Thread nD τ).loc main_arg3)) := by
  after_results
  rfl

/-- Before the first kernel runs, `main_v37` holds the stacked weights. -/
theorem W1_v37 (c : Dev nD) : W1 m ρ c (Proc.devRef .tc main_v37) =
    wsT (m ((c : Thread nD τ).loc main_arg4)) (m ((c : Thread nD τ).loc main_arg6)) (m ((c : Thread nD τ).loc main_arg8)) := by
  after_results
  rfl

/-- Before the first kernel runs, `main_v47` holds the stacked biases. -/
theorem W1_v47 (c : Dev nD) : W1 m ρ c (Proc.devRef .tc main_v47) =
    bsT (m ((c : Thread nD τ).loc main_arg5)) (m ((c : Thread nD τ).loc main_arg7)) (m ((c : Thread nD τ).loc main_arg9)) := by
  after_results
  rfl

end Cert.KernelIdeal.Conv

end
-- ==== Proof.KernelValue.lean ====
/- The whole kernel as one term of its arguments, and the buffer its run leaves that term in. -/
module

public import proofs.«01_k».proof.Proof.HostIn

@[expose] public section

set_option maxRecDepth 16384

noncomputable section

namespace Cert.KernelIdeal.Conv

open Idealize.ShloMosaic Idealize.ShloMosaic.TcCoe Idealize.SL.Sem Cert.KernelIdeal Cert.KernelIdeal.Gen Cert.Conv

/-- The result's layout: a component a row, then channels, rows, columns. -/
def outT (y : FVec Ideal S768x8192 .f32) : FVec Ideal S256x3x128x8x8 .f32 :=
  shapeCast S256x3x128x8x8 (transpose S768x128x64 [0, 2, 1] (shapeCast S768x64x128 y shapeCasts_S768x8192_S768x64x128)
    transposes_S768x64x128_S768x128x64_0_2_1) shapeCasts_S768x128x64_S256x3x128x8x8

/-- The whole kernel as a term of its arguments. -/
def kerT (a0 : IVec S256 32) (a1 : IVec S256x3 32) (a2 : FVec Ideal S256x3x128x8x8 .f32) (a3 : FVec Ideal S68x128x8x8 .f32)
    (w1 : FVec Ideal S128x128x3x3 .f32) (b1 : FVec Ideal S128 .f32) (w2 : FVec Ideal S128x128x3x3 .f32) (b2 : FVec Ideal S128 .f32)
    (w3 : FVec Ideal S128x128x3x3 .f32) (b3 : FVec Ideal S128 .f32) : FVec Ideal S256x3x128x8x8 .f32 :=
  outT (mixed (featT a2) (rowT (sitofp .f32 (keyT a0 a1))) (colT (sitofp .f32 (keyT a0 a1))) (colT (sitofp .f32 (addrT a1)))
    (shapeCast S72x8192 (out0_3 (imgT a3) (wsT w1 w2 w3) (bsT b1 b2 b3)) shapeCasts_S4608x128_S72x8192))

section
variable (m : (ℓ : Loc nD τ sig) → Buf (Elt Ideal) ℓ) (ρ : Dev nD → PrngReg)

/-- After the first kernel, `main_v48` holds its three layers over the bias images. -/
theorem W2_v48 (c : Dev nD) : W2 m ρ c (Proc.devRef .tc main_v48) =
    out0_3 (imgT (m ((c : Thread nD τ).loc main_arg3)))
      (wsT (m ((c : Thread nD τ).loc main_arg4)) (m ((c : Thread nD τ).loc main_arg6)) (m ((c : Thread nD τ).loc main_arg8)))
      (bsT (m ((c : Thread nD τ).loc main_arg5)) (m ((c : Thread nD τ).loc main_arg7)) (m ((c : Thread nD τ).loc main_arg9))) := by
  rw [← W1_v27 m ρ, ← W1_v37 m ρ, ← W1_v47 m ρ]
  exact (hF0 m ρ c 3).symm.trans (arr0 (V1 m ρ) c)

/-- Between the two kernels, `main_v49` is the first one's result with an image in each row. -/
theorem W3_v49 (c : Dev nD) : W3 m ρ c (Proc.devRef .tc main_v49) =
    (shapeCast S72x8192 (W2 m ρ c (Proc.devRef .tc main_v48) : FVec Ideal S4608x128 .f32) shapeCasts_S4608x128_S72x8192 : FVec Ideal S72x8192 .f32) := by
  after_results
  rfl

/-- An array that neither the first kernel nor the reshaping after it writes is as it was. -/
theorem W3_keep (c : Dev nD) (r : Ref sig .tc) (h : r ∉ hostOps1_W)
    (h' : ∀ w : Fin cfg0.W, Pipeline.arrRef spec0 w = r → (cfg0.win w).isOut = false) :
    W3 m ρ c (Proc.devRef .tc r) = W1 m ρ c (Proc.devRef .tc r) :=
  (W3_of m ρ c r h).trans (W2_of m ρ c r h')

/-- At the end, `main_v53` is the second kernel's result put back in the reference's layout. -/
theorem W5_v53 (c : Dev nD) : W5 m ρ c (Proc.devRef .tc main_v53) = outT (W4 m ρ c (Proc.devRef .tc main_v50)) := by
  after_results
  rfl

/-- What the kernel leaves in its result. -/
theorem W5_result (c : Dev nD) : W5 m ρ c (Proc.devRef .tc main_v53) =
    kerT (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  have e : W4 m ρ c (Proc.devRef .tc main_v50) = mixed (W3 m ρ c (Proc.devRef .tc main_v14)) (W3 m ρ c (Proc.devRef .tc main_v18))
      (W3 m ρ c (Proc.devRef .tc main_v16)) (W3 m ρ c (Proc.devRef .tc main_v20)) (W3 m ρ c (Proc.devRef .tc main_v49)) :=
    (hF1 m ρ c 5).symm.trans (arr1 (V3 m ρ) c)
  have h14 := (W3_keep m ρ c main_v14 (by decide +kernel) (by decide +kernel)).trans (W1_v14 m ρ c)
  have h16 := (W3_keep m ρ c main_v16 (by decide +kernel) (by decide +kernel)).trans (W1_v16 m ρ c)
  have h18 := (W3_keep m ρ c main_v18 (by decide +kernel) (by decide +kernel)).trans (W1_v18 m ρ c)
  have h20 := (W3_keep m ρ c main_v20 (by decide +kernel) (by decide +kernel)).trans (W1_v20 m ρ c)
  have h49 := W3_v49 m ρ c
  rw [W2_v48] at h49
  rw [h14, h16, h18, h20, h49] at e
  exact (W5_v53 m ρ c).trans (congrArg outT e)

end

end Cert.KernelIdeal.Conv

end
-- ==== Proof.KernelAt.lean ====
/- The kernel's term at an index: the mean of the components with the same memory row, plus the network on the addressed image. -/
module

public import proofs.«01_k».proof.Proof.KernelValue

@[expose] public section

set_option maxRecDepth 16384

noncomputable section

namespace Cert.KernelIdeal.Conv

open Idealize.ShloMosaic Idealize.ShloMosaic.TcCoe Idealize.SL.Sem Cert.KernelIdeal Cert.KernelIdeal.Gen Cert.Conv

/-- The result's layout at an index. -/
theorem outT_at (y : FVec Ideal S768x8192 .f32) (s : Fin 256) (n : Fin 3) (c : Fin 128) (h w : Fin 8) :
    outT y (ix5 s n c h w) = y (ix2 ⟨3 * s.val + n.val, by omega⟩ ⟨128 * (8 * h.val + w.val) + c.val, by omega⟩) := by
  unfold outT
  pointwise
  congr 3 <;> omega

/-- Two words read as numbers are equal exactly when the words are. -/
theorem eqv_sitofp (a b : BitVec 32) :
    eqv (FloatOps.sitofp (F := Ideal) .f32 a) (FloatOps.sitofp (F := Ideal) .f32 b) = if b = a then 1 else 0 := by
  unfold eqv
  show (if (((a.toInt : ℝ)) : EReal) = ((b.toInt : ℝ) : EReal) then (1 : EReal) else 0) = _
  congr 1
  apply propext
  rw [EReal.coe_eq_coe_iff, Int.cast_inj, BitVec.toInt_inj, eq_comm]

/-- A sum against the indicator of a word's number picks that entry. -/
theorem pick (a : BitVec 32) (h : a.toNat < 72) (t : Fin 72 → EReal) :
    ∑ k : Fin 72, eqv (FloatOps.sitofp (F := Ideal) .f32 a) (FloatOps.sitofp (F := Ideal) .f32 (BitVec.ofNat 32 k.val)) * t k
      = t ⟨a.toNat, h⟩ := by
  rw [Finset.sum_eq_single ⟨a.toNat, h⟩]
  · rw [eqv_sitofp, if_pos (by simp), one_mul]
  · intro k _ hk
    rw [eqv_sitofp, if_neg, zero_mul]
    rintro rfl
    apply hk
    apply Fin.ext
    have := k.isLt
    simp only [BitVec.toNat_ofNat]
    omega
  · intro hk
    exact absurd (Finset.mem_univ _) hk

/-- The network on the first kernel's operands is the network on the arguments. -/
theorem net_args (a3 : FVec Ideal S68x128x8x8 .f32)
    (w1 : FVec Ideal S128x128x3x3 .f32) (b1 : FVec Ideal S128 .f32) (w2 : FVec Ideal S128x128x3x3 .f32) (b2 : FVec Ideal S128 .f32)
    (w3 : FVec Ideal S128x128x3x3 .f32) (b3 : FVec Ideal S128 .f32) (b : ℕ) (hb : b < 68) (p : ℕ) (o : Fin 128) :
    net (wsT w1 w2 w3) (bsT b1 b2 b3) (imgOf (imgT a3) b) p o =
      layerv (layerv (layerv (imgv a3 b) (wv w1) (bv b1)) (wv w2) (bv b2)) (wv w3) (bv b3) p o := by
  unfold net
  refine layerv_congr (fun q _ c => layerv_congr (fun q _ c => layerv_congr (fun q hq c => ?_) ?_ ?_ q c) ?_ ?_ q c) ?_ ?_ p o
  · rw [imgOf_imgT a3 ⟨b, hb⟩ q hq c, imgv, dif_pos ⟨hb, hq⟩]
  · intro k hk c o
    rw [(wOf_wsT w1 w2 w3 k hk c o).1, wv, dif_pos hk]
  · intro o
    exact (bOf_bsT b1 b2 b3 o).1
  · intro k hk c o
    rw [(wOf_wsT w1 w2 w3 k hk c o).2.1, wv, dif_pos hk]
  · intro o
    exact (bOf_bsT b1 b2 b3 o).2.1
  · intro k hk c o
    rw [(wOf_wsT w1 w2 w3 k hk c o).2.2, wv, dif_pos hk]
  · intro o
    exact (bOf_bsT b1 b2 b3 o).2.2

/-- The second kernel's value at a component and a column, its key and address columns being words read as numbers. -/
theorem mixv_words (key addr : Fin 768 → BitVec 32) (x : Fin 768 → EReal) (tab : Fin 72 → EReal) (i : Fin 768)
    (h : (addr i).toNat < 72) :
    mixv (fun i => FloatOps.sitofp (F := Ideal) .f32 (key i)) (fun i => FloatOps.sitofp (F := Ideal) .f32 (key i))
      (fun i => FloatOps.sitofp (F := Ideal) .f32 (addr i)) x tab i = meanv key x i + tab ⟨(addr i).toNat, h⟩ := by
  unfold mixv meanv
  rw [pick _ h]
  simp only [eqv_sitofp, ite_mul, one_mul, zero_mul]

/-- The network's rows laid out a row an image, 128 channels a position. -/
theorem table_at (y : FVec Ideal S4608x128 .f32) (b : Fin 72) (p : ℕ) (hp : p < 64) (c : Fin 128) :
    shapeCast S72x8192 y shapeCasts_S4608x128_S72x8192 (ix2 b ⟨128 * p + c.val, by omega⟩) = rowv y (64 * b.val + p) c := by
  pointwise
  rw [rowv, dif_pos (by omega)]
  congr 3 <;> omega

/-- The second kernel on the host's operands, at a component and a column. -/
theorem mixed_at (a0 : IVec S256 32) (a1 : IVec S256x3 32) (x : FVec Ideal S768x8192 .f32) (tab : FVec Ideal S72x8192 .f32)
    (i : Fin 768) (j : Fin 8192) (h : (addrw a1 i).toNat < 72) :
    mixed x (rowT (sitofp .f32 (keyT a0 a1))) (colT (sitofp .f32 (keyT a0 a1))) (colT (sitofp .f32 (addrT a1))) tab (ix2 i j) =
      meanv (keyw a0 a1) (fun k => x (ix2 k j)) i + tab (ix2 ⟨(addrw a1 i).toNat, h⟩ j) := by
  have e1 : ∀ k, colT (sitofp .f32 (keyT a0 a1)) (ix2 k 0) = FloatOps.sitofp (F := Ideal) .f32 (keyw a0 a1 k) := fun k =>
    (colT_at _ k).trans (congrArg (FloatOps.sitofp (F := Ideal) .f32) (keyT_at a0 a1 k))
  have e2 : ∀ k, rowT (sitofp .f32 (keyT a0 a1)) (ix2 0 k) = FloatOps.sitofp (F := Ideal) .f32 (keyw a0 a1 k) := fun k =>
    (rowT_at _ k).trans (congrArg (FloatOps.sitofp (F := Ideal) .f32) (keyT_at a0 a1 k))
  have e3 : ∀ k, colT (sitofp .f32 (addrT a1)) (ix2 k 0) = FloatOps.sitofp (F := Ideal) .f32 (addrw a1 k) := fun k =>
    (colT_at _ k).trans (congrArg (FloatOps.sitofp (F := Ideal) .f32) (addrT_at a1 k))
  refine Eq.trans ?_ (mixv_words (keyw a0 a1) (addrw a1) (fun k => x (ix2 k j)) (fun k => tab (ix2 k j)) i h)
  unfold mixed
  simp only [e1, e2, e3]
  rfl

/-- The kernel's result at an index. -/
theorem kerT_at (a0 : IVec S256 32) (a1 : IVec S256x3 32) (a2 : FVec Ideal S256x3x128x8x8 .f32) (a3 : FVec Ideal S68x128x8x8 .f32)
    (w1 : FVec Ideal S128x128x3x3 .f32) (b1 : FVec Ideal S128 .f32) (w2 : FVec Ideal S128x128x3x3 .f32) (b2 : FVec Ideal S128 .f32)
    (w3 : FVec Ideal S128x128x3x3 .f32) (b3 : FVec Ideal S128 .f32) (h1 : ∀ j, (a1 j).toNat < 19)
    (s : Fin 256) (n : Fin 3) (c : Fin 128) (h w : Fin 8) :
    kerT a0 a1 a2 a3 w1 b1 w2 b2 w3 b3 (ix5 s n c h w) =
      resultv a0 a1 a2 a3 w1 b1 w2 b2 w3 b3 ⟨3 * s.val + n.val, by omega⟩ (8 * h.val + w.val) c := by
  have hp : 8 * h.val + w.val < 64 := by omega
  have hl := (addrw_lt a1 h1 ⟨3 * s.val + n.val, by omega⟩).1
  have hf : (fun k => featT a2 (ix2 k ⟨128 * (8 * h.val + w.val) + c.val, by omega⟩)) = featv a2 (8 * h.val + w.val) c :=
    funext fun k => (featT_at a2 k _ hp c).trans (by rw [featv, dif_pos hp])
  refine (outT_at _ s n c h w).trans ((mixed_at a0 a1 _ _ _ _ (by omega)).trans ?_)
  rw [hf, table_at _ _ _ hp, out0_3_at _ _ _ _ _ (by omega) hp, net_args a3 w1 b1 w2 b2 w3 b3 _ (Nat.lt_of_lt_of_le hl (by decide))]
  rfl

end Cert.KernelIdeal.Conv

end
-- ==== Proof.KernelRun.lean ====
/- The whole kernel's run: from any memory it ends with its result at the term of its arguments, the arguments
   unchanged. -/
module

public import proofs.«01_k».proof.Proof.KernelValue

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Conv

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with its result at `kerT` of its arguments, and the arguments unchanged. -/
theorem run : θ_run defs (onTc (τ := τ) (main (F := Ideal))) ⟨m, fun _ => 0, ρ⟩ (fun r => ∀ c : Dev nD,
      r.2.mem ((c.tc : Thread nD τ).loc main_v53) =
        kerT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v53 (by decide))).trans (W5_result m ρ c),
        (h c _ (mem_uc main_arg0 (by decide))).trans (W5_main_arg0 m ρ c),
        (h c _ (mem_uc main_arg1 (by decide))).trans (W5_main_arg1 m ρ c),
        (h c _ (mem_uc main_arg2 (by decide))).trans (W5_main_arg2 m ρ c),
        (h c _ (mem_uc main_arg3 (by decide))).trans (W5_main_arg3 m ρ c),
        (h c _ (mem_uc main_arg4 (by decide))).trans (W5_main_arg4 m ρ c),
        (h c _ (mem_uc main_arg5 (by decide))).trans (W5_main_arg5 m ρ c),
        (h c _ (mem_uc main_arg6 (by decide))).trans (W5_main_arg6 m ρ c),
        (h c _ (mem_uc main_arg7 (by decide))).trans (W5_main_arg7 m ρ c),
        (h c _ (mem_uc main_arg8 (by decide))).trans (W5_main_arg8 m ρ c),
        (h c _ (mem_uc main_arg9 (by decide))).trans (W5_main_arg9 m ρ c)⟩)

end Cert.KernelIdeal.Conv

end
-- ==== Proof.RefConv.lean ====
/- The reference's convolution layer: on a padded image, at an index, it is the layer of plain mathematics. -/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Conv

open Idealize.ShloMosaic Idealize.ShloMosaic.TcCoe Idealize.SL.Sem Cert.ReferenceIdeal Cert.ReferenceIdeal.Gen Cert.Conv

/-- One tap over the padded images: the weights at one kernel position against the window at that offset. -/
def tapT (w : FVec Ideal S128x128x3x3 .f32) (xp : FVec Ideal S768x128x10x10 .f32) (ky kx : ℕ)
    (hw : S128x128x3x3.Slices ![0, 0, ky, kx] S128x128x1x1) (hx : S768x128x10x10.Slices ![0, 0, ky, kx] S768x128x8x8) :
    FVec Ideal S768x128x8x8 .f32 :=
  transpose S768x128x8x8 [1, 0, 2, 3] (Host.dotGeneral dot_S128x128_S768x128x8x8_S128x768x8x8_1_1_0_023_n_n none
    (shapeCast S128x128 (extractStridedSlice S128x128x1x1 ![0, 0, ky, kx] w hw) shapeCasts_S128x128x1x1_S128x128)
    (extractStridedSlice S768x128x8x8 ![0, 0, ky, kx] xp hx)) transposes_S128x768x8x8_S768x128x8x8_1_0_2_3

/-- One tap at an entry is a sum over the input channels. -/
theorem tapT_at (w : FVec Ideal S128x128x3x3 .f32) (xp : FVec Ideal S768x128x10x10 .f32) (ky kx : ℕ) (hky : ky < 3) (hkx : kx < 3)
    (hw : S128x128x3x3.Slices ![0, 0, ky, kx] S128x128x1x1) (hx : S768x128x10x10.Slices ![0, 0, ky, kx] S768x128x8x8)
    (i : Fin 768) (o : Fin 128) (y x : Fin 8) : tapT w xp ky kx hw hx (ix4 i o y x) =
      ∑ c : Fin 128, w (ix4 o c ⟨ky, hky⟩ ⟨kx, hkx⟩) * xp (ix4 i c ⟨ky + y.val, by omega⟩ ⟨kx + x.val, by omega⟩) := by
  unfold tapT
  pointwise

/-- Nine taps added in order onto zero. -/
def convT (w : FVec Ideal S128x128x3x3 .f32) (xp : FVec Ideal S768x128x10x10 .f32) : FVec Ideal S768x128x8x8 .f32 :=
  addf (addf (addf (addf (addf (addf (addf (addf (addf (broadcastInDim S768x128x8x8 ![] bcast_S_S768x128x8x8 (constant S_ .f32 0x00000000#32))
    (tapT w xp 0 0 slices_S128x128x3x3_S128x128x1x1_0_0_0_0 slices_S768x128x10x10_S768x128x8x8_0_0_0_0))
    (tapT w xp 0 1 slices_S128x128x3x3_S128x128x1x1_0_0_0_1 slices_S768x128x10x10_S768x128x8x8_0_0_0_1))
    (tapT w xp 0 2 slices_S128x128x3x3_S128x128x1x1_0_0_0_2 slices_S768x128x10x10_S768x128x8x8_0_0_0_2))
    (tapT w xp 1 0 slices_S128x128x3x3_S128x128x1x1_0_0_1_0 slices_S768x128x10x10_S768x128x8x8_0_0_1_0))
    (tapT w xp 1 1 slices_S128x128x3x3_S128x128x1x1_0_0_1_1 slices_S768x128x10x10_S768x128x8x8_0_0_1_1))
    (tapT w xp 1 2 slices_S128x128x3x3_S128x128x1x1_0_0_1_2 slices_S768x128x10x10_S768x128x8x8_0_0_1_2))
    (tapT w xp 2 0 slices_S128x128x3x3_S128x128x1x1_0_0_2_0 slices_S768x128x10x10_S768x128x8x8_0_0_2_0))
    (tapT w xp 2 1 slices_S128x128x3x3_S128x128x1x1_0_0_2_1 slices_S768x128x10x10_S768x128x8x8_0_0_2_1))
    (tapT w xp 2 2 slices_S128x128x3x3_S128x128x1x1_0_0_2_2 slices_S768x128x10x10_S768x128x8x8_0_0_2_2)

/-- A frame of one zero around every image. -/
def padT (z : FVec Ideal S768x128x8x8 .f32) : FVec Ideal S768x128x10x10 .f32 :=
  pad S768x128x10x10 ![0, 0, 1, 1] ![0, 0, 1, 1] ![0, 0, 0, 0] z (sitofp .f32 (constantI S_ 32 0#32))
    pads_S768x128x8x8_S768x128x10x10_000_000_110_110 h_S_

/-- Bias and ReLU. -/
def actT (b : FVec Ideal S128 .f32) (z : FVec Ideal S768x128x8x8 .f32) : FVec Ideal S768x128x8x8 .f32 :=
  maximumf (addf z (broadcastInDim S768x128x8x8 ![0, 1, 2, 3] bcast_S1x128x1x1_S768x128x8x8_0_1_2_3
    (broadcastInDim S1x128x1x1 ![1] bcast_S128_S1x128x1x1_1 b)))
    (broadcastInDim S768x128x8x8 ![] bcast_S_S768x128x8x8 (constant S_ .f32 0x00000000#32))

/-- A whole layer. -/
def layerT (w : FVec Ideal S128x128x3x3 .f32) (b : FVec Ideal S128 .f32) (z : FVec Ideal S768x128x8x8 .f32) :
    FVec Ideal S768x128x8x8 .f32 := actT b (convT w (padT z))

/-- The convolution at an entry is its nine taps added in order. -/
theorem convT_at (w : FVec Ideal S128x128x3x3 .f32) (xp : FVec Ideal S768x128x10x10 .f32)
    (i : Fin 768) (o : Fin 128) (y x : Fin 8) : convT w xp (ix4 i o y x) =
      0 + tapT w xp 0 0 slices_S128x128x3x3_S128x128x1x1_0_0_0_0 slices_S768x128x10x10_S768x128x8x8_0_0_0_0 (ix4 i o y x) + tapT w xp 0 1 slices_S128x128x3x3_S128x128x1x1_0_0_0_1 slices_S768x128x10x10_S768x128x8x8_0_0_0_1 (ix4 i o y x) + tapT w xp 0 2 slices_S128x128x3x3_S128x128x1x1_0_0_0_2 slices_S768x128x10x10_S768x128x8x8_0_0_0_2 (ix4 i o y x) + tapT w xp 1 0 slices_S128x128x3x3_S128x128x1x1_0_0_1_0 slices_S768x128x10x10_S768x128x8x8_0_0_1_0 (ix4 i o y x) + tapT w xp 1 1 slices_S128x128x3x3_S128x128x1x1_0_0_1_1 slices_S768x128x10x10_S768x128x8x8_0_0_1_1 (ix4 i o y x) + tapT w xp 1 2 slices_S128x128x3x3_S128x128x1x1_0_0_1_2 slices_S768x128x10x10_S768x128x8x8_0_0_1_2 (ix4 i o y x) + tapT w xp 2 0 slices_S128x128x3x3_S128x128x1x1_0_0_2_0 slices_S768x128x10x10_S768x128x8x8_0_0_2_0 (ix4 i o y x) + tapT w xp 2 1 slices_S128x128x3x3_S128x128x1x1_0_0_2_1 slices_S768x128x10x10_S768x128x8x8_0_0_2_1 (ix4 i o y x) + tapT w xp 2 2 slices_S128x128x3x3_S128x128x1x1_0_0_2_2 slices_S768x128x10x10_S768x128x8x8_0_0_2_2 (ix4 i o y x) := by
  unfold convT
  pointwise

/-- The padded image in a tap's window: the neighbour if it is in the image, else zero. -/
theorem padT_at (z : FVec Ideal S768x128x8x8 .f32) (X : ℕ → Fin 128 → EReal) (i : Fin 768)
    (h : ∀ c (y x : Fin 8), z (ix4 i c y x) = X (8 * y.val + x.val) c) (c : Fin 128) (dy dx : ℕ) (hy : dy < 3) (hx : dx < 3) (y x : Fin 8) :
    padT z (ix4 i c ⟨dy + y.val, by omega⟩ ⟨dx + x.val, by omega⟩) = tapv X dy dx (8 * y.val + x.val) c := by
  unfold padT
  pointwise
  unfold tapv
  have e1 : (8 * y.val + x.val) / 8 = y.val := by omega
  have e2 : (8 * y.val + x.val) % 8 = x.val := by omega
  rw [e1, e2]
  by_cases hc : 1 ≤ y.val + dy ∧ y.val + dy ≤ 8 ∧ 1 ≤ x.val + dx ∧ x.val + dx ≤ 8
  · rw [if_pos hc, dif_pos (by omega), h]
    congr 1
    show 8 * (dy + y.val - 1) + (dx + x.val - 1) = _
    omega
  · rw [if_neg hc, dif_neg (by omega)]
    show (((0#32 : BitVec 32).toInt : ℝ) : EReal) = 0
    simp

/-- Bias and relu at an entry. -/
theorem actT_at (b : FVec Ideal S128 .f32) (z : FVec Ideal S768x128x8x8 .f32) (i : Fin 768) (o : Fin 128) (y x : Fin 8) :
    actT b z (ix4 i o y x) = max (z (ix4 i o y x) + b (ix1 o)) 0 := by
  unfold actT
  pointwise

/-- Tap `k` of the padded images is the term of plain mathematics. -/
theorem tap_term (w : FVec Ideal S128x128x3x3 .f32) (z : FVec Ideal S768x128x8x8 .f32) (X : ℕ → Fin 128 → EReal) (i : Fin 768)
    (h : ∀ c (y x : Fin 8), z (ix4 i c y x) = X (8 * y.val + x.val) c) (k : ℕ) (hk : k < 9)
    (hw : S128x128x3x3.Slices ![0, 0, k / 3, k % 3] S128x128x1x1) (hx : S768x128x10x10.Slices ![0, 0, k / 3, k % 3] S768x128x8x8)
    (o : Fin 128) (y x : Fin 8) :
    tapT w (padT z) (k / 3) (k % 3) hw hx (ix4 i o y x) = term X (wv w) k (8 * y.val + x.val) o := by
  rw [tapT_at w (padT z) _ _ (by omega) (by omega)]
  unfold term
  refine Finset.sum_congr rfl fun c _ => ?_
  rw [padT_at z X i h c _ _ (by omega) (by omega), wv, dif_pos hk, mul_comm]

/-- A whole layer on images `X`, at an index. -/
theorem layerT_at (w : FVec Ideal S128x128x3x3 .f32) (b : FVec Ideal S128 .f32) (z : FVec Ideal S768x128x8x8 .f32)
    (X : ℕ → Fin 128 → EReal) (i : Fin 768) (h : ∀ c (y x : Fin 8), z (ix4 i c y x) = X (8 * y.val + x.val) c)
    (o : Fin 128) (y x : Fin 8) :
    layerT w b z (ix4 i o y x) = layerv X (wv w) (bv b) (8 * y.val + x.val) o := by
  unfold layerT layerv bv
  rw [actT_at, convT_at]
  have t := fun k hk hw hx => tap_term w z X i h k hk hw hx o y x
  rw [← t 0 (by decide) slices_S128x128x3x3_S128x128x1x1_0_0_0_0 slices_S768x128x10x10_S768x128x8x8_0_0_0_0, ← t 1 (by decide) slices_S128x128x3x3_S128x128x1x1_0_0_0_1 slices_S768x128x10x10_S768x128x8x8_0_0_0_1, ← t 2 (by decide) slices_S128x128x3x3_S128x128x1x1_0_0_0_2 slices_S768x128x10x10_S768x128x8x8_0_0_0_2, ← t 3 (by decide) slices_S128x128x3x3_S128x128x1x1_0_0_1_0 slices_S768x128x10x10_S768x128x8x8_0_0_1_0, ← t 4 (by decide) slices_S128x128x3x3_S128x128x1x1_0_0_1_1 slices_S768x128x10x10_S768x128x8x8_0_0_1_1, ← t 5 (by decide) slices_S128x128x3x3_S128x128x1x1_0_0_1_2 slices_S768x128x10x10_S768x128x8x8_0_0_1_2, ← t 6 (by decide) slices_S128x128x3x3_S128x128x1x1_0_0_2_0 slices_S768x128x10x10_S768x128x8x8_0_0_2_0, ← t 7 (by decide) slices_S128x128x3x3_S128x128x1x1_0_0_2_1 slices_S768x128x10x10_S768x128x8x8_0_0_2_1, ← t 8 (by decide) slices_S128x128x3x3_S128x128x1x1_0_0_2_2 slices_S768x128x10x10_S768x128x8x8_0_0_2_2]

end Cert.ReferenceIdeal.Conv

end
-- ==== Proof.RefMem.lean ====
/- The reference's memory and table reads: its gathers and its accumulating scatters at an index. -/
module

public import proofs.«01_k».proof.Proof.RefConv
public import Idealize.ShloMosaic.Lib.Routing.OpsPair

@[expose] public section

set_option maxRecDepth 16384

noncomputable section

namespace Cert.ReferenceIdeal.Conv

open Idealize.ShloMosaic Idealize.ShloMosaic.TcCoe Idealize.SL.Sem Cert.ReferenceIdeal Cert.ReferenceIdeal.Gen Cert.Conv

/-- Row numbers as an index column, a negative one counted from the end. -/
def idxT (v : IVec S768 32) (n : BitVec 32) : IVec S768x1 32 :=
  broadcastInDim S768x1 ![0] bcast_S768_S768x1_0 (select (cmpi .slt v (broadcastInDim S768 ![] bcast_S_S768 (constantI S_ 32 0#32)))
    (addi v (broadcastInDim S768 ![] bcast_S_S768 (constantI S_ 32 n))) v)

/-- A row number that is not negative is its own index. -/
theorem idxT_at (v : IVec S768 32) (n : BitVec 32) (i : Fin 768) (h : (v (ix1 i)).toNat < 4352) : idxT v n (ix2 i 0) = v (ix1 i) := by
  unfold idxT
  pointwise
  refine if_neg fun e => ?_
  have e' : BitVec.slt (v (ix1 i)) 0#32 = true := by
    revert e
    show BitVec.ofBool (BitVec.slt (v (ix1 i)) 0#32) = 1#1 → _
    cases BitVec.slt (v (ix1 i)) 0#32 <;> decide
  rw [BitVec.slt_eq_decide, decide_eq_true_eq, BitVec.toInt_eq_toNat_cond] at e'
  simp at e'
  omega

/-- A word below `2 ^ 31` is its own signed number. -/
theorem toInt_small (v : BitVec 32) (h : v.toNat < 4352) : v.toInt = (v.toNat : Int) := by
  rw [BitVec.toInt_eq_toNat_cond, if_pos (by omega)]

/-- Reading rows of sums at in-range numbers gives those rows. -/
theorem gather_rows (x : FVec Ideal S4352x8192 .f32) (idx : IVec S768x1 32) (i : Fin 768) (j : Fin 8192)
    (h : (idx (ix2 i 0)).toNat < 4352) :
    Host.gather gather_S4352x8192_S768x1_S768x8192_1_0_n_n_0_1_18192 x idx (ix2 i j) = x (ix2 ⟨(idx (ix2 i 0)).toNat, h⟩ j) := by
  have e : ∀ q, min (idx q).toInt.toNat (4352 - 1) = min (idx q).toInt.toNat 4351 := fun q => rfl
  have hi : gather_S4352x8192_S768x1_S768x8192_1_0_n_n_0_1_18192.siIdx (ix2 i j) ⟨0, by decide⟩ = ix2 i 0 := by
    funext b
    match b with
    | ⟨0, _⟩ => rfl
    | ⟨1, _⟩ => rfl
  refine congrArg x (funext fun a => Fin.ext ?_)
  match a with
  | ⟨0, _⟩ =>
    show min (idx (gather_S4352x8192_S768x1_S768x8192_1_0_n_n_0_1_18192.siIdx (ix2 i j) ⟨0, by decide⟩)).toInt.toNat 4351 + 0 + 0 = _
    rw [hi, toInt_small _ h]
    show _ = (idx (ix2 i 0)).toNat
    omega
  | ⟨1, _⟩ =>
    show 0 + 0 + j.val = j.val
    omega

/-- Reading counts at in-range numbers gives those counts. -/
theorem gather_counts (x : FVec Ideal S4352 .f32) (idx : IVec S768x1 32) (i : Fin 768) (h : (idx (ix2 i 0)).toNat < 4352) :
    Host.gather gather_S4352_S768x1_S768_n_0_n_n_0_1_1 x idx (ix1 i) = x (ix1 ⟨(idx (ix2 i 0)).toNat, h⟩) := by
  have hi : gather_S4352_S768x1_S768_n_0_n_n_0_1_1.siIdx (ix1 i) ⟨0, by decide⟩ = ix2 i 0 := by
    funext b
    match b with
    | ⟨0, _⟩ => rfl
    | ⟨1, _⟩ => rfl
  refine congrArg x (funext fun a => Fin.ext ?_)
  match a with
  | ⟨0, _⟩ =>
    show min (idx (gather_S4352_S768x1_S768_n_0_n_n_0_1_1.siIdx (ix1 i) ⟨0, by decide⟩)).toInt.toNat 4351 + 0 + 0 = _
    rw [hi, toInt_small _ h]
    show _ = (idx (ix2 i 0)).toNat
    omega

/-- Reading bias images at in-range numbers gives those images. -/
theorem gather_images (x : FVec Ideal S68x128x8x8 .f32) (idx : IVec S768x1 32) (i : Fin 768) (c : Fin 128) (y z : Fin 8)
    (h : (idx (ix2 i 0)).toNat < 68) :
    Host.gather gather_S68x128x8x8_S768x1_S768x128x8x8_123_0_n_n_0_1_112888 x idx (ix4 i c y z) = x (ix4 ⟨(idx (ix2 i 0)).toNat, h⟩ c y z) := by
  have hi : gather_S68x128x8x8_S768x1_S768x128x8x8_123_0_n_n_0_1_112888.siIdx (ix4 i c y z) ⟨0, by decide⟩ = ix2 i 0 := by
    funext b
    match b with
    | ⟨0, _⟩ => rfl
    | ⟨1, _⟩ => rfl
  refine congrArg x (funext fun a => Fin.ext ?_)
  match a with
  | ⟨0, _⟩ =>
    show min (idx (gather_S68x128x8x8_S768x1_S768x128x8x8_123_0_n_n_0_1_112888.siIdx (ix4 i c y z) ⟨0, by decide⟩)).toInt.toNat 67 + 0 + 0 = _
    rw [hi, toInt_small _ (by omega)]
    show _ = (idx (ix2 i 0)).toNat
    omega
  | ⟨1, _⟩ =>
    show 0 + 0 + c.val = c.val
    omega
  | ⟨2, _⟩ =>
    show 0 + 0 + y.val = y.val
    omega
  | ⟨3, _⟩ =>
    show 0 + 0 + z.val = z.val
    omega

/-- Update `(k, q)` lands on `(r, j)` exactly when its number is `r` and its column is `j`. -/
theorem lands_rows (idx : IVec S768x1 32) (k : Fin 768) (q : Fin 8192) (r : Fin 4352) (j : Fin 8192) :
    scatter_S4352x8192_S768x1_S768x8192_1_0_0_1.resultIdx? (ix2 k q) idx = some (ix2 r j) ↔ (idx (ix2 k 0)).toInt = (r.val : Int) ∧ q = j := by
  rw [Routing.resultIdx?_eq_some]
  have hi : scatter_S4352x8192_S768x1_S768x8192_1_0_0_1.siIdx (ix2 k q) ⟨0, by decide⟩ = ix2 k 0 := by
    funext b
    match b with
    | ⟨0, _⟩ => rfl
    | ⟨1, _⟩ => rfl
  have h0 : scatter_S4352x8192_S768x1_S768x8192_1_0_0_1.start (ix2 k q) idx 0 = (idx (ix2 k 0)).toInt := by
    rw [← hi]
    rfl
  have h1 : scatter_S4352x8192_S768x1_S768x8192_1_0_0_1.start (ix2 k q) idx 1 = 0 := rfl
  have w0 : scatter_S4352x8192_S768x1_S768x8192_1_0_0_1.window (ix2 k q) 0 = 0 := rfl
  have w1 : scatter_S4352x8192_S768x1_S768x8192_1_0_0_1.window (ix2 k q) 1 = q.val := rfl
  constructor
  · intro h
    have a := h 0
    have b := h 1
    rw [h0, w0] at a
    rw [h1, w1] at b
    change (idx (ix2 k 0)).toInt + ((0 : ℕ) : Int) = (r.val : Int) at a
    change (0 : Int) + (q.val : Int) = (j.val : Int) at b
    exact ⟨by omega, Fin.ext (by omega)⟩
  · rintro ⟨a, rfl⟩ b
    match b with
    | ⟨0, _⟩ =>
      show scatter_S4352x8192_S768x1_S768x8192_1_0_0_1.start (ix2 k q) idx 0 + ((scatter_S4352x8192_S768x1_S768x8192_1_0_0_1.window (ix2 k q) 0 : ℕ) : Int) = (r.val : Int)
      rw [h0, w0, a]
      omega
    | ⟨1, _⟩ =>
      show scatter_S4352x8192_S768x1_S768x8192_1_0_0_1.start (ix2 k q) idx 1 + ((scatter_S4352x8192_S768x1_S768x8192_1_0_0_1.window (ix2 k q) 1 : ℕ) : Int) = (q.val : Int)
      rw [h1, w1]
      omega

/-- Update `k` lands on count `r` exactly when its number is `r`. -/
theorem lands_counts (idx : IVec S768x1 32) (k : Fin 768) (r : Fin 4352) :
    scatter_S4352_S768x1_S768_n_0_0_1.resultIdx? (ix1 k) idx = some (ix1 r) ↔ (idx (ix2 k 0)).toInt = (r.val : Int) := by
  rw [Routing.resultIdx?_eq_some]
  have hi : scatter_S4352_S768x1_S768_n_0_0_1.siIdx (ix1 k) ⟨0, by decide⟩ = ix2 k 0 := by
    funext b
    match b with
    | ⟨0, _⟩ => rfl
    | ⟨1, _⟩ => rfl
  have h0 : scatter_S4352_S768x1_S768_n_0_0_1.start (ix1 k) idx 0 = (idx (ix2 k 0)).toInt := by
    rw [← hi]
    rfl
  have w0 : scatter_S4352_S768x1_S768_n_0_0_1.window (ix1 k) 0 = 0 := rfl
  constructor
  · intro h
    have a := h 0
    rw [h0, w0] at a
    change (idx (ix2 k 0)).toInt + ((0 : ℕ) : Int) = (r.val : Int) at a
    omega
  · intro a b
    match b with
    | ⟨0, _⟩ =>
      show scatter_S4352_S768x1_S768_n_0_0_1.start (ix1 k) idx 0 + ((scatter_S4352_S768x1_S768_n_0_0_1.window (ix1 k) 0 : ℕ) : Int) = (r.val : Int)
      rw [h0, w0, a]
      omega

/-- The accumulated rows: at a row and a column, the sum of the updates of that row. -/
theorem scatter_rows (x : FVec Ideal S4352x8192 .f32) (idx : IVec S768x1 32) (upd : FVec Ideal S768x8192 .f32) (v : BitVec 32)
    (h : v.toNat < 4352) (j : Fin 8192) :
    Host.scatterAdd scatter_S4352x8192_S768x1_S768x8192_1_0_0_1 x idx upd (ix2 ⟨v.toNat, h⟩ j) =
      x (ix2 ⟨v.toNat, h⟩ j) + ∑ k : Fin 768, if idx (ix2 k 0) = v then upd (ix2 k j) else 0 := by
  show x _ + ∑ q ∈ Finset.univ.filter (fun q => scatter_S4352x8192_S768x1_S768x8192_1_0_0_1.resultIdx? q idx = some (ix2 ⟨v.toNat, h⟩ j)), upd q = _
  have hl : ∀ k q, scatter_S4352x8192_S768x1_S768x8192_1_0_0_1.resultIdx? (ix2 k q) idx = some (ix2 ⟨v.toNat, h⟩ j) ↔ idx (ix2 k 0) = v ∧ q = j := fun k q => by
    rw [lands_rows, ← toInt_small v h, BitVec.toInt_inj]
  rw [← Finset.sum_filter]
  congr 1
  refine Finset.sum_nbij' (fun q => (q 0 : Fin 768)) (fun k => ix2 k j) ?_ ?_ ?_ ?_ ?_
  · intro q hq
    have e := (Finset.mem_filter.1 hq).2
    rw [eq_ix2 q] at e
    exact Finset.mem_filter.2 ⟨Finset.mem_univ _, ((hl _ _).1 e).1⟩
  · intro k hk
    exact Finset.mem_filter.2 ⟨Finset.mem_univ _, (hl k j).2 ⟨(Finset.mem_filter.1 hk).2, rfl⟩⟩
  · intro q hq
    have e := (Finset.mem_filter.1 hq).2
    rw [eq_ix2 q] at e
    have := ((hl _ _).1 e).2
    rw [← this]
    exact (eq_ix2 q).symm
  · intro k _
    rfl
  · intro q hq
    have e := (Finset.mem_filter.1 hq).2
    rw [eq_ix2 q] at e
    have := ((hl _ _).1 e).2
    rw [← this]
    exact congrArg upd (eq_ix2 q)

/-- The accumulated counts: at a row, the sum of the updates of that row. -/
theorem scatter_counts (x : FVec Ideal S4352 .f32) (idx : IVec S768x1 32) (upd : FVec Ideal S768 .f32) (v : BitVec 32)
    (h : v.toNat < 4352) :
    Host.scatterAdd scatter_S4352_S768x1_S768_n_0_0_1 x idx upd (ix1 ⟨v.toNat, h⟩) =
      x (ix1 ⟨v.toNat, h⟩) + ∑ k : Fin 768, if idx (ix2 k 0) = v then upd (ix1 k) else 0 := by
  show x _ + ∑ q ∈ Finset.univ.filter (fun q => scatter_S4352_S768x1_S768_n_0_0_1.resultIdx? q idx = some (ix1 ⟨v.toNat, h⟩)), upd q = _
  have hl : ∀ k, scatter_S4352_S768x1_S768_n_0_0_1.resultIdx? (ix1 k) idx = some (ix1 ⟨v.toNat, h⟩) ↔ idx (ix2 k 0) = v := fun k => by
    rw [lands_counts, ← toInt_small v h, BitVec.toInt_inj]
  rw [← Finset.sum_filter]
  congr 1
  refine Finset.sum_nbij' (fun q => (q 0 : Fin 768)) (fun k => ix1 k) ?_ ?_ ?_ ?_ ?_
  · intro q hq
    have e := (Finset.mem_filter.1 hq).2
    rw [eq_ix1 q] at e
    exact Finset.mem_filter.2 ⟨Finset.mem_univ _, (hl _).1 e⟩
  · intro k hk
    exact Finset.mem_filter.2 ⟨Finset.mem_univ _, (hl k).2 (Finset.mem_filter.1 hk).2⟩
  · intro q _
    exact (eq_ix1 q).symm
  · intro k _
    rfl
  · intro q _
    exact congrArg upd (eq_ix1 q)

end Cert.ReferenceIdeal.Conv

end
-- ==== Proof.RefValue.lean ====
/- The reference's result: a term of its arguments, and that term at an index. -/
module

public import proofs.«01_k».proof.Proof.RefMem

@[expose] public section

set_option maxRecDepth 16384

noncomputable section

namespace Cert.ReferenceIdeal.Conv

open Idealize.ShloMosaic Idealize.ShloMosaic.TcCoe Idealize.SL.Sem Cert.ReferenceIdeal Cert.ReferenceIdeal.Gen Cert.Conv

/-- The addresses of the components, a row a sample. -/
def addr2T (a1 : IVec S256x3 32) : IVec S256x3 32 :=
  addi a1 (broadcastInDim S256x3 ![0, 1] bcast_S1x3_S256x3_0_1 (broadcastInDim S1x3 ![1] bcast_S3_S1x3_1 (fun i => lit0 (S3.rowMajor i))))

/-- The flat component addresses. -/
def addrT (a1 : IVec S256x3 32) : IVec S768 32 := shapeCast S768 (addr2T a1) shapeCasts_S256x3_S768

/-- The flat memory keys. -/
def keyT (a0 : IVec S256 32) (a1 : IVec S256x3 32) : IVec S768 32 :=
  shapeCast S768 (addi (broadcastInDim S256x3 ![0, 1] bcast_S256x1_S256x3_0_1 (muli (broadcastInDim S256x1 ![0] bcast_S256_S256x1_0 a0)
    (broadcastInDim S256x1 ![] bcast_S_S256x1 (constantI S_ 32 68#32)))) (addr2T a1)) shapeCasts_S256x3_S768

/-- The memory's mean rows, read back a row a component. -/
def memT (idx : IVec S768x1 32) (a2 : FVec Ideal S256x3x128x8x8 .f32) : FVec Ideal S768x8192 .f32 :=
  Host.divf (Host.gather gather_S4352x8192_S768x1_S768x8192_1_0_n_n_0_1_18192
      (Host.scatterAdd scatter_S4352x8192_S768x1_S768x8192_1_0_0_1 (broadcastInDim S4352x8192 ![] bcast_S_S4352x8192 (constant S_ .f32 0x00000000#32))
        idx (shapeCast S768x8192 a2 shapeCasts_S256x3x128x8x8_S768x8192)) idx)
    (broadcastInDim S768x8192 ![0, 1] bcast_S768x1_S768x8192_0_1 (broadcastInDim S768x1 ![0] bcast_S768_S768x1_0
      (Host.gather gather_S4352_S768x1_S768_n_0_n_n_0_1_1
        (Host.scatterAdd scatter_S4352_S768x1_S768_n_0_0_1 (broadcastInDim S4352 ![] bcast_S_S4352 (constant S_ .f32 0x00000000#32))
          idx (broadcastInDim S768 ![] bcast_S_S768 (constant S_ .f32 0x3F800000#32))) idx)))

/-- The whole reference as a term of its arguments. -/
def refT (a0 : IVec S256 32) (a1 : IVec S256x3 32) (a2 : FVec Ideal S256x3x128x8x8 .f32) (a3 : FVec Ideal S68x128x8x8 .f32)
    (w1 : FVec Ideal S128x128x3x3 .f32) (b1 : FVec Ideal S128 .f32) (w2 : FVec Ideal S128x128x3x3 .f32) (b2 : FVec Ideal S128 .f32)
    (w3 : FVec Ideal S128x128x3x3 .f32) (b3 : FVec Ideal S128 .f32) : FVec Ideal S256x3x128x8x8 .f32 :=
  addf (shapeCast S256x3x128x8x8 (memT (idxT (keyT a0 a1) 4352#32) a2) shapeCasts_S768x8192_S256x3x128x8x8)
    (shapeCast S256x3x128x8x8 (layerT w3 b3 (layerT w2 b2 (layerT w1 b1
      (Host.gather gather_S68x128x8x8_S768x1_S768x128x8x8_123_0_n_n_0_1_112888 a3 (idxT (addrT a1) 68#32)))))
      shapeCasts_S768x128x8x8_S256x3x128x8x8)

open Idealize.ShloMosaic.StableHlo in
/-- Every run of the reference ends with its result at `refT` of its arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v234) =
        refT (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans rfl, (h c).2⟩) (Cert.ReferenceIdeal.Value.run (F := Ideal) m ρ)

/-- The three offsets in the reference's table are those of plain mathematics. -/
theorem lit0_at : ∀ r : Fin 3, lit0 (S3.rowMajor (ix1 r)) = offw r.val := by decide

/-- An address is the component number plus the offset of its place. -/
theorem addr2T_at (a1 : IVec S256x3 32) (s : Fin 256) (n : Fin 3) : addr2T a1 (ix2 s n) = a1 (ix2 s n) + offw n.val := by
  unfold addr2T
  pointwise
  rw [lit0_at]
  rfl

/-- The flattened addresses, by row. -/
theorem addrT_at (a1 : IVec S256x3 32) (i : Fin 768) : addrT a1 (ix1 i) = addrw a1 i := by
  unfold addrT addrw
  pointwise
  rw [addr2T_at]

/-- The flattened keys, by row. -/
theorem keyT_at (a0 : IVec S256 32) (a1 : IVec S256x3 32) (i : Fin 768) : keyT a0 a1 (ix1 i) = keyw a0 a1 i := by
  unfold keyT keyw addrw
  pointwise
  rw [addr2T_at]
  rfl

/-- A component's features at a position given by its row and column. -/
theorem featv_at (a2 : FVec Ideal S256x3x128x8x8 .f32) (k : Fin 768) (c : Fin 128) (h w : Fin 8) :
    featv a2 (8 * h.val + w.val) c k = a2 (ix5 ⟨k.val / 3, by omega⟩ ⟨k.val % 3, by omega⟩ c h w) := by
  have eh : (⟨(8 * h.val + w.val) / 8, by omega⟩ : Fin 8) = h := Fin.ext (by show (8 * h.val + w.val) / 8 = h.val; omega)
  have ew : (⟨(8 * h.val + w.val) % 8, by omega⟩ : Fin 8) = w := Fin.ext (by show (8 * h.val + w.val) % 8 = w.val; omega)
  rw [featv, dif_pos (by omega), eh, ew]

/-- A memory row's mean at a component and a column. -/
theorem memT_at (idx : IVec S768x1 32) (a2 : FVec Ideal S256x3x128x8x8 .f32) (key : Fin 768 → BitVec 32)
    (hk : ∀ k, idx (ix2 k 0) = key k) (hl : ∀ k, (key k).toNat < 4352) (i : Fin 768) (c : Fin 128) (h w : Fin 8) :
    memT idx a2 (ix2 i ⟨64 * c.val + 8 * h.val + w.val, by omega⟩) = meanv key (featv a2 (8 * h.val + w.val) c) i := by
  have hi : (idx (ix2 i 0)).toNat < 4352 := (hk i).symm ▸ hl i
  unfold memT meanv
  pointwise
  rw [gather_rows _ _ _ _ hi, gather_counts _ _ _ hi, scatter_rows _ _ _ _ hi, scatter_counts _ _ _ _ hi]
  pointwise
  simp only [hk, featv_at]

/-- The reference's result at an index. -/
theorem refT_at (a0 : IVec S256 32) (a1 : IVec S256x3 32) (a2 : FVec Ideal S256x3x128x8x8 .f32) (a3 : FVec Ideal S68x128x8x8 .f32)
    (w1 : FVec Ideal S128x128x3x3 .f32) (b1 : FVec Ideal S128 .f32) (w2 : FVec Ideal S128x128x3x3 .f32) (b2 : FVec Ideal S128 .f32)
    (w3 : FVec Ideal S128x128x3x3 .f32) (b3 : FVec Ideal S128 .f32) (h0 : ∀ j, (a0 j).toNat < 64) (h1 : ∀ j, (a1 j).toNat < 19)
    (s : Fin 256) (n : Fin 3) (c : Fin 128) (h w : Fin 8) :
    refT a0 a1 a2 a3 w1 b1 w2 b2 w3 b3 (ix5 s n c h w) =
      resultv a0 a1 a2 a3 w1 b1 w2 b2 w3 b3 ⟨3 * s.val + n.val, by omega⟩ (8 * h.val + w.val) c := by
  have ei : (⟨s.val * 3 + n.val, by omega⟩ : Fin 768) = ⟨3 * s.val + n.val, by omega⟩ := Fin.ext (by show s.val * 3 + n.val = 3 * s.val + n.val; omega)
  have ec : (⟨c.val * 64 + h.val * 8 + w.val, by omega⟩ : Fin 8192) = ⟨64 * c.val + 8 * h.val + w.val, by omega⟩ :=
    Fin.ext (by show c.val * 64 + h.val * 8 + w.val = 64 * c.val + 8 * h.val + w.val; omega)
  have hkey : ∀ k, idxT (keyT a0 a1) 4352#32 (ix2 k 0) = keyw a0 a1 k := fun k => by
    have hl := keyw_lt a0 a1 h0 h1 k
    rw [← keyT_at] at hl
    rw [idxT_at _ _ _ hl, keyT_at]
  unfold refT resultv
  pointwise
  rw [ei, ec, memT_at _ a2 (keyw a0 a1) hkey (keyw_lt a0 a1 h0 h1)]
  congr 1
  generalize (⟨3 * s.val + n.val, by omega⟩ : Fin 768) = i
  have haddr : idxT (addrT a1) 68#32 (ix2 i 0) = addrw a1 i := by
    have hl : (addrT a1 (ix1 i)).toNat < 4352 := by
      have := (addrw_lt a1 h1 i).1
      rw [addrT_at]
      omega
    rw [idxT_at _ _ _ hl, addrT_at]
  have hb : (idxT (addrT a1) 68#32 (ix2 i 0)).toNat < 68 := by
    have := (addrw_lt a1 h1 i).1
    rw [haddr]
    omega
  refine layerT_at w3 b3 _ _ i (fun c y x => layerT_at w2 b2 _ _ i (fun c y x => layerT_at w1 b1 _ _ i (fun c y x => ?_) c y x) c y x) c h w
  have hy : 8 * y.val + x.val < 64 := by omega
  rw [gather_images _ _ _ _ _ _ hb, imgv, dif_pos ⟨haddr ▸ hb, hy⟩]
  congr 2
  · exact Fin.ext (congrArg BitVec.toNat haddr)
  · exact Fin.ext (by show y.val = (8 * y.val + x.val) / 8; omega)
  · exact Fin.ext (by show x.val = (8 * y.val + x.val) % 8; omega)

end Cert.ReferenceIdeal.Conv

end
-- ==== Proof.lean ====
/- The certificate's claim. The kernel and the reference are each read, at an index, as the same term of plain
   mathematics (`Cert.Conv.resultv`): the mean of the features that share a memory row, plus three 3x3
   convolution layers on the table image the component addresses. -/
module

public import proofs.«01_k».proof.Defs
public import proofs.«01_k».proof.Proof.Pre
public import proofs.«01_k».proof.Proof.KernelAt
public import proofs.«01_k».proof.Proof.KernelRun
public import proofs.«01_k».proof.Proof.RefValue
public import proofs.«01_k».proof.Proof.Gen.Kernel.Frame
public import proofs.«01_k».proof.Proof.Gen.KernelIdeal.Frame
public import Idealize.ShloMosaic.Adequacy
public import Idealize.ShloMosaic.Init

@[expose] public section

noncomputable section

namespace Cert.Proof

open Idealize.ShloMosaic Idealize.SL.Sem

/-- Every run of the reference ends with its arguments unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On ids within their ranges the kernel and the reference compute the same array. -/
theorem same (a0 : IVec ⟨1, ![256]⟩ 32) (a1 : IVec ⟨2, ![256, 3]⟩ 32) (a2 : FVec Ideal ⟨5, ![256, 3, 128, 8, 8]⟩ .f32)
    (a3 : FVec Ideal ⟨4, ![68, 128, 8, 8]⟩ .f32) (w1 : FVec Ideal ⟨4, ![128, 128, 3, 3]⟩ .f32) (b1 : FVec Ideal ⟨1, ![128]⟩ .f32)
    (w2 : FVec Ideal ⟨4, ![128, 128, 3, 3]⟩ .f32) (b2 : FVec Ideal ⟨1, ![128]⟩ .f32)
    (w3 : FVec Ideal ⟨4, ![128, 128, 3, 3]⟩ .f32) (b3 : FVec Ideal ⟨1, ![128]⟩ .f32)
    (h0 : ∀ j, (a0 j).toNat < 64) (h1 : ∀ j, (a1 j).toNat < 19) :
    Cert.ReferenceIdeal.Conv.refT a0 a1 a2 a3 w1 b1 w2 b2 w3 b3 = Cert.KernelIdeal.Conv.kerT a0 a1 a2 a3 w1 b1 w2 b2 w3 b3 := by
  funext q
  obtain ⟨s, n, c, h, w, rfl⟩ : ∃ (s : Fin 256) (n : Fin 3) (c : Fin 128) (h w : Fin 8), q = ix5 s n c h w :=
    ⟨q 0, q 1, q 2, q 3, q 4, eq_ix5 q⟩
  exact (Cert.ReferenceIdeal.Conv.refT_at a0 a1 a2 a3 w1 b1 w2 b2 w3 b3 h0 h1 s n c h w).trans
    (Cert.KernelIdeal.Conv.kerT_at a0 a1 a2 a3 w1 b1 w2 b2 w3 b3 h1 s n c h w).symm

/-- The kernel and the reference, from memories agreeing on the arguments, end with equal results. -/
theorem value : Cert.algebraic_KernelIdeal_ReferenceIdeal_pre_ids_in_range (hKernelIdeal := Cert.KernelIdeal.Gen.facts)
    (hReferenceIdeal := Cert.ReferenceIdeal.Gen.facts) (hPre_ids_in_range := Cert.Ids.facts) := by
  intro m g m' g' hpre hag
  refine ⟨_, Cert.KernelIdeal.Conv.run m g, (θ_run Cert.ReferenceIdeal.defs _ _).mono (fun r h c => ⟨(h c).1.trans ?_, (h c).2⟩)
    (Cert.ReferenceIdeal.Conv.run m' g')⟩
  obtain ⟨e0, e1, e2, e3, e4, e5, e6, e7, e8, e9⟩ := hag c
  letI := Cert.Ids.facts
  obtain ⟨h0, h1⟩ := Cert.Ids.ranges _ _ _ _ _ _ _ _ _ _ (hpre c)
  rw [e0, e1, e2, e3, e4, e5, e6, e7, e8, e9]
  exact same _ _ _ _ _ _ _ _ _ _ h0 h1

/-- All the claims together. -/
theorem claim : Cert.Claim := ⟨Cert.Kernel.Gen.facts, Cert.KernelIdeal.Gen.facts, Cert.ReferenceIdeal.Gen.facts, Cert.Ids.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, value⟩

end Cert.Proof

end
